-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S16 : Shape := ⟨1, ![16]⟩
abbrev S1 : Shape := ⟨1, ![1]⟩
abbrev S_ : Shape := ⟨0, ![]⟩
abbrev S64x2048 : Shape := ⟨2, ![64, 2048]⟩
abbrev S64 : Shape := ⟨1, ![64]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .local _ .vmem, ⟨0, _⟩ => ⟨S1x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v11 : BitVec 32 := Scalar.addi v8 c0_i32
  let c0_i32_9 : BitVec 32 := 0#32
  ![v11.toNat, 0]
def k0_dev1 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v172 : BitVec 32 := Scalar.muli v6 c2_i32_138
  let v173 : BitVec 32 := Scalar.addi c0_i32_139 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v174 : BitVec 32 := Scalar.muli v5 c1_i32_140
  let v175 : BitVec 32 := Scalar.addi v173 v174
  v175.toNat
def k0_dev2 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v176 : BitVec 32 := Scalar.muli v2 c2_i32_142
  let v177 : BitVec 32 := Scalar.addi c0_i32_143 v176
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_144 : BitVec 32 := 1#32
  let v178 : BitVec 32 := Scalar.muli v7 c1_i32_144
  let v179 : BitVec 32 := Scalar.addi v177 v178
  v179.toNat
def k0_dev3 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v189 : BitVec 32 := Scalar.muli v6 c2_i32_155
  let v190 : BitVec 32 := Scalar.addi c0_i32_156 v189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v191 : BitVec 32 := Scalar.muli v5 c1_i32_157
  let v192 : BitVec 32 := Scalar.addi v190 v191
  v192.toNat
def k0_dev4 (d0 : Dev nD) : Nat :=
  let c0_i32_172 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_171 : BitVec 32 := 2#32
  let v208 : BitVec 32 := Scalar.muli v6 c2_i32_171
  let v209 : BitVec 32 := Scalar.addi c0_i32_172 v208
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v210 : BitVec 32 := Scalar.muli v5 c1_i32_173
  let v211 : BitVec 32 := Scalar.addi v209 v210
  v211.toNat
def k0_dev5 (d0 : Dev nD) : Nat :=
  let c0_i32_188 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_187 : BitVec 32 := 2#32
  let v227 : BitVec 32 := Scalar.muli v6 c2_i32_187
  let v228 : BitVec 32 := Scalar.addi c0_i32_188 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_189 : BitVec 32 := 1#32
  let v229 : BitVec 32 := Scalar.muli v5 c1_i32_189
  let v230 : BitVec 32 := Scalar.addi v228 v229
  v230.toNat
def k0_dev6 (d0 : Dev nD) : Nat :=
  let c0_i32_204 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_203 : BitVec 32 := 2#32
  let v246 : BitVec 32 := Scalar.muli v6 c2_i32_203
  let v247 : BitVec 32 := Scalar.addi c0_i32_204 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_205 : BitVec 32 := 1#32
  let v248 : BitVec 32 := Scalar.muli v5 c1_i32_205
  let v249 : BitVec 32 := Scalar.addi v247 v248
  v249.toNat
def k0_dev7 (d0 : Dev nD) : Nat :=
  let c0_i32_220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_219 : BitVec 32 := 2#32
  let v265 : BitVec 32 := Scalar.muli v6 c2_i32_219
  let v266 : BitVec 32 := Scalar.addi c0_i32_220 v265
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v267 : BitVec 32 := Scalar.muli v5 c1_i32_221
  let v268 : BitVec 32 := Scalar.addi v266 v267
  v268.toNat
def k0_dev8 (d0 : Dev nD) : Nat :=
  let c0_i32_236 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_235 : BitVec 32 := 2#32
  let v284 : BitVec 32 := Scalar.muli v6 c2_i32_235
  let v285 : BitVec 32 := Scalar.addi c0_i32_236 v284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_237 : BitVec 32 := 1#32
  let v286 : BitVec 32 := Scalar.muli v5 c1_i32_237
  let v287 : BitVec 32 := Scalar.addi v285 v286
  v287.toNat
def k0_dev9 (d0 : Dev nD) : Nat :=
  let c0_i32_252 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_251 : BitVec 32 := 2#32
  let v303 : BitVec 32 := Scalar.muli v6 c2_i32_251
  let v304 : BitVec 32 := Scalar.addi c0_i32_252 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_253 : BitVec 32 := 1#32
  let v305 : BitVec 32 := Scalar.muli v5 c1_i32_253
  let v306 : BitVec 32 := Scalar.addi v304 v305
  v306.toNat
def k0_dev10 (d0 : Dev nD) : Nat :=
  let c0_i32_268 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_267 : BitVec 32 := 2#32
  let v322 : BitVec 32 := Scalar.muli v6 c2_i32_267
  let v323 : BitVec 32 := Scalar.addi c0_i32_268 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_269 : BitVec 32 := 1#32
  let v324 : BitVec 32 := Scalar.muli v5 c1_i32_269
  let v325 : BitVec 32 := Scalar.addi v323 v324
  v325.toNat
def k0_dev11 (d0 : Dev nD) : Nat :=
  let c0_i32_284 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_283 : BitVec 32 := 2#32
  let v341 : BitVec 32 := Scalar.muli v6 c2_i32_283
  let v342 : BitVec 32 := Scalar.addi c0_i32_284 v341
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_285 : BitVec 32 := 1#32
  let v343 : BitVec 32 := Scalar.muli v5 c1_i32_285
  let v344 : BitVec 32 := Scalar.addi v342 v343
  v344.toNat
def k0_dev12 (d0 : Dev nD) : Nat :=
  let c0_i32_300 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_299 : BitVec 32 := 2#32
  let v360 : BitVec 32 := Scalar.muli v6 c2_i32_299
  let v361 : BitVec 32 := Scalar.addi c0_i32_300 v360
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_301 : BitVec 32 := 1#32
  let v362 : BitVec 32 := Scalar.muli v5 c1_i32_301
  let v363 : BitVec 32 := Scalar.addi v361 v362
  v363.toNat
def k0_dev13 (d0 : Dev nD) : Nat :=
  let c0_i32_316 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_315 : BitVec 32 := 2#32
  let v379 : BitVec 32 := Scalar.muli v6 c2_i32_315
  let v380 : BitVec 32 := Scalar.addi c0_i32_316 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v381 : BitVec 32 := Scalar.muli v5 c1_i32_317
  let v382 : BitVec 32 := Scalar.addi v380 v381
  v382.toNat
def k0_dev14 (d0 : Dev nD) : Nat :=
  let c0_i32_332 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_331 : BitVec 32 := 2#32
  let v398 : BitVec 32 := Scalar.muli v6 c2_i32_331
  let v399 : BitVec 32 := Scalar.addi c0_i32_332 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_333 : BitVec 32 := 1#32
  let v400 : BitVec 32 := Scalar.muli v5 c1_i32_333
  let v401 : BitVec 32 := Scalar.addi v399 v400
  v401.toNat
def k0_dev15 (d0 : Dev nD) : Nat :=
  let c0_i32_348 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_347 : BitVec 32 := 2#32
  let v417 : BitVec 32 := Scalar.muli v6 c2_i32_347
  let v418 : BitVec 32 := Scalar.addi c0_i32_348 v417
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_349 : BitVec 32 := 1#32
  let v419 : BitVec 32 := Scalar.muli v5 c1_i32_349
  let v420 : BitVec 32 := Scalar.addi v418 v419
  v420.toNat
def k0_dev16 (d0 : Dev nD) : Nat :=
  let c0_i32_364 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_363 : BitVec 32 := 2#32
  let v436 : BitVec 32 := Scalar.muli v6 c2_i32_363
  let v437 : BitVec 32 := Scalar.addi c0_i32_364 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_365 : BitVec 32 := 1#32
  let v438 : BitVec 32 := Scalar.muli v5 c1_i32_365
  let v439 : BitVec 32 := Scalar.addi v437 v438
  v439.toNat
def k0_dev17 (d0 : Dev nD) : Nat :=
  let c0_i32_380 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_379 : BitVec 32 := 2#32
  let v455 : BitVec 32 := Scalar.muli v6 c2_i32_379
  let v456 : BitVec 32 := Scalar.addi c0_i32_380 v455
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v457 : BitVec 32 := Scalar.muli v5 c1_i32_381
  let v458 : BitVec 32 := Scalar.addi v456 v457
  v458.toNat
def k0_dev18 (d0 : Dev nD) : Nat :=
  let c0_i32_396 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_395 : BitVec 32 := 2#32
  let v474 : BitVec 32 := Scalar.muli v6 c2_i32_395
  let v475 : BitVec 32 := Scalar.addi c0_i32_396 v474
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_397 : BitVec 32 := 1#32
  let v476 : BitVec 32 := Scalar.muli v5 c1_i32_397
  let v477 : BitVec 32 := Scalar.addi v475 v476
  v477.toNat
def k0_dev19 (d0 : Dev nD) : Nat :=
  let c0_i32_437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_436 : BitVec 32 := 2#32
  let v526 : BitVec 32 := Scalar.muli v2 c2_i32_436
  let v527 : BitVec 32 := Scalar.addi c0_i32_437 v526
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_438 : BitVec 32 := 1#32
  let v528 : BitVec 32 := Scalar.muli v7 c1_i32_438
  let v529 : BitVec 32 := Scalar.addi v527 v528
  v529.toNat
def k0_dev20 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v584 : BitVec 32 := Scalar.muli v2 c2_i32_483
  let v585 : BitVec 32 := Scalar.addi c0_i32_484 v584
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_485 : BitVec 32 := 1#32
  let v586 : BitVec 32 := Scalar.muli v7 c1_i32_485
  let v587 : BitVec 32 := Scalar.addi v585 v586
  v587.toNat
def k0_dev21 (d0 : Dev nD) : Nat :=
  let c0_i32_531 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_530 : BitVec 32 := 2#32
  let v642 : BitVec 32 := Scalar.muli v2 c2_i32_530
  let v643 : BitVec 32 := Scalar.addi c0_i32_531 v642
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_532 : BitVec 32 := 1#32
  let v644 : BitVec 32 := Scalar.muli v7 c1_i32_532
  let v645 : BitVec 32 := Scalar.addi v643 v644
  v645.toNat
def k0_off2 (d0 : Dev nD) (c0_i32_564 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let v678 : BitVec 32 := Scalar.addi v10 c0_i32_564
  let c0_i32_566 : BitVec 32 := 0#32
  ![v678.toNat, 0]
def k0_dev22 (d0 : Dev nD) : Nat :=
  let c0_i32_603 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_602 : BitVec 32 := 2#32
  let v722 : BitVec 32 := Scalar.muli v2 c2_i32_602
  let v723 : BitVec 32 := Scalar.addi c0_i32_603 v722
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_604 : BitVec 32 := 1#32
  let v724 : BitVec 32 := Scalar.muli v7 c1_i32_604
  let v725 : BitVec 32 := Scalar.addi v723 v724
  v725.toNat
def k0_dev23 (d0 : Dev nD) : Nat :=
  let c0_i32_675 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_674 : BitVec 32 := 2#32
  let v802 : BitVec 32 := Scalar.muli v2 c2_i32_674
  let v803 : BitVec 32 := Scalar.addi c0_i32_675 v802
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_676 : BitVec 32 := 1#32
  let v804 : BitVec 32 := Scalar.muli v7 c1_i32_676
  let v805 : BitVec 32 := Scalar.addi v803 v804
  v805.toNat
def k0_dev24 (d0 : Dev nD) : Nat :=
  let c0_i32_747 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_746 : BitVec 32 := 2#32
  let v882 : BitVec 32 := Scalar.muli v2 c2_i32_746
  let v883 : BitVec 32 := Scalar.addi c0_i32_747 v882
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_748 : BitVec 32 := 1#32
  let v884 : BitVec 32 := Scalar.muli v7 c1_i32_748
  let v885 : BitVec 32 := Scalar.addi v883 v884
  v885.toNat
def k0_dev25 (d0 : Dev nD) : Nat :=
  let c0_i32_819 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_818 : BitVec 32 := 2#32
  let v962 : BitVec 32 := Scalar.muli v2 c2_i32_818
  let v963 : BitVec 32 := Scalar.addi c0_i32_819 v962
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_820 : BitVec 32 := 1#32
  let v964 : BitVec 32 := Scalar.muli v7 c1_i32_820
  let v965 : BitVec 32 := Scalar.addi v963 v964
  v965.toNat
def k0_dev26 (d0 : Dev nD) : Nat :=
  let c0_i32_891 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_890 : BitVec 32 := 2#32
  let v1042 : BitVec 32 := Scalar.muli v2 c2_i32_890
  let v1043 : BitVec 32 := Scalar.addi c0_i32_891 v1042
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_892 : BitVec 32 := 1#32
  let v1044 : BitVec 32 := Scalar.muli v7 c1_i32_892
  let v1045 : BitVec 32 := Scalar.addi v1043 v1044
  v1045.toNat
def k0_dev27 (d0 : Dev nD) : Nat :=
  let c0_i32_963 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_962 : BitVec 32 := 2#32
  let v1122 : BitVec 32 := Scalar.muli v2 c2_i32_962
  let v1123 : BitVec 32 := Scalar.addi c0_i32_963 v1122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_964 : BitVec 32 := 1#32
  let v1124 : BitVec 32 := Scalar.muli v7 c1_i32_964
  let v1125 : BitVec 32 := Scalar.addi v1123 v1124
  v1125.toNat
def k0_dev28 (d0 : Dev nD) : Nat :=
  let c0_i32_1035 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1034 : BitVec 32 := 2#32
  let v1202 : BitVec 32 := Scalar.muli v2 c2_i32_1034
  let v1203 : BitVec 32 := Scalar.addi c0_i32_1035 v1202
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1036 : BitVec 32 := 1#32
  let v1204 : BitVec 32 := Scalar.muli v7 c1_i32_1036
  let v1205 : BitVec 32 := Scalar.addi v1203 v1204
  v1205.toNat
def k0_dev29 (d0 : Dev nD) : Nat :=
  let c0_i32_1107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1106 : BitVec 32 := 2#32
  let v1282 : BitVec 32 := Scalar.muli v2 c2_i32_1106
  let v1283 : BitVec 32 := Scalar.addi c0_i32_1107 v1282
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1108 : BitVec 32 := 1#32
  let v1284 : BitVec 32 := Scalar.muli v7 c1_i32_1108
  let v1285 : BitVec 32 := Scalar.addi v1283 v1284
  v1285.toNat
def k0_dev30 (d0 : Dev nD) : Nat :=
  let c0_i32_1179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1178 : BitVec 32 := 2#32
  let v1362 : BitVec 32 := Scalar.muli v2 c2_i32_1178
  let v1363 : BitVec 32 := Scalar.addi c0_i32_1179 v1362
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1180 : BitVec 32 := 1#32
  let v1364 : BitVec 32 := Scalar.muli v7 c1_i32_1180
  let v1365 : BitVec 32 := Scalar.addi v1363 v1364
  v1365.toNat
def k0_dev31 (d0 : Dev nD) : Nat :=
  let c0_i32_1251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1250 : BitVec 32 := 2#32
  let v1442 : BitVec 32 := Scalar.muli v2 c2_i32_1250
  let v1443 : BitVec 32 := Scalar.addi c0_i32_1251 v1442
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1252 : BitVec 32 := 1#32
  let v1444 : BitVec 32 := Scalar.muli v7 c1_i32_1252
  let v1445 : BitVec 32 := Scalar.addi v1443 v1444
  v1445.toNat
def k0_dev32 (d0 : Dev nD) : Nat :=
  let c0_i32_1323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1322 : BitVec 32 := 2#32
  let v1522 : BitVec 32 := Scalar.muli v2 c2_i32_1322
  let v1523 : BitVec 32 := Scalar.addi c0_i32_1323 v1522
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1324 : BitVec 32 := 1#32
  let v1524 : BitVec 32 := Scalar.muli v7 c1_i32_1324
  let v1525 : BitVec 32 := Scalar.addi v1523 v1524
  v1525.toNat
def k0_dev33 (d0 : Dev nD) : Nat :=
  let c0_i32_1395 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1394 : BitVec 32 := 2#32
  let v1602 : BitVec 32 := Scalar.muli v2 c2_i32_1394
  let v1603 : BitVec 32 := Scalar.addi c0_i32_1395 v1602
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1396 : BitVec 32 := 1#32
  let v1604 : BitVec 32 := Scalar.muli v7 c1_i32_1396
  let v1605 : BitVec 32 := Scalar.addi v1603 v1604
  v1605.toNat
def k0_dev34 (d0 : Dev nD) : Nat :=
  let c0_i32_1467 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1466 : BitVec 32 := 2#32
  let v1682 : BitVec 32 := Scalar.muli v2 c2_i32_1466
  let v1683 : BitVec 32 := Scalar.addi c0_i32_1467 v1682
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1468 : BitVec 32 := 1#32
  let v1684 : BitVec 32 := Scalar.muli v7 c1_i32_1468
  let v1685 : BitVec 32 := Scalar.addi v1683 v1684
  v1685.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Steps.lean ====
/- The kernel function as a list of steps, one per chunk of 64 rows and phase, at a symbolic chunk. -/
module

public import proofs.«01_k».proof.Proof.Gen.KernelIdeal
public import proofs.«01_k».proof.Proof.Gen.KernelIdeal.Skeleton

@[expose] public section

noncomputable section

namespace Cert.AR

open Idealize.ShloMosaic Idealize.SL.Sem Cert.KernelIdeal Cert.KernelIdeal.Gen

variable {F : FTy → Type} [FloatOps F]

/-! ## Side conditions at a symbolic chunk -/

theorem inbC : ∀ k : Fin 16, ∀ a, (![64 * k.val, 0] : Fin 2 → Nat) a + S64x2048.size a ≤ S1024x2048.size a := by decide
theorem inbS : ∀ k : Fin 16, ∀ a, (![k.val] : Fin 1 → Nat) a + S1.size a ≤ S16.size a := by decide

/-- The 64 rows of chunk `k` in a buffer of 1024 rows. -/
abbrev rc (k : Fin 16) : Rect S1024x2048 := Rect.unit (s := S1024x2048) ![64 * k.val, 0] S64x2048.size (inbC k)

theorem packedC (k : Fin 16) : (rc k).PackedRows (EltTy.packing .bf16) := by revert k; decide
theorem wordsC (k : Fin 16) : (rc k).WholeWords (EltTy.packing .bf16) := by revert k; decide

/-- Chunk `k` of the half of the rows this device reduces, and of the other half. -/
abbrev ro1 (d : Dev nD) (k : Fin 16) : Rect S2048x2048 :=
  Rect.unit (s := S2048x2048) (k0_off1 d (BitVec.ofNat 32 (64 * k.val))) S64x2048.size (k0_off1_inb d k)
abbrev ro2 (d : Dev nD) (k : Fin 16) : Rect S2048x2048 :=
  Rect.unit (s := S2048x2048) (k0_off2 d (BitVec.ofNat 32 (64 * k.val))) S64x2048.size (k0_off2_inb d k)

/-- Chunk `k` of a buffer of 1024 rows, of this device's half and of the other half of a buffer of 2048 rows. -/
abbrev ch {sp : Space} {e : EltTy} (M : Memref sig .tc sp S1024x2048 e) (k : Fin 16) : Memref sig .tc sp S64x2048 e :=
  M.slice (rc k) (fun _ => rfl)
abbrev oh1 {sp : Space} {e : EltTy} (M : Memref sig .tc sp S2048x2048 e) (d : Dev nD) (k : Fin 16) : Memref sig .tc sp S64x2048 e :=
  M.slice (ro1 d k) (fun _ => rfl)
abbrev oh2 {sp : Space} {e : EltTy} (M : Memref sig .tc sp S2048x2048 e) (d : Dev nD) (k : Fin 16) : Memref sig .tc sp S64x2048 e :=
  M.slice (ro2 d k) (fun _ => rfl)
/-- Semaphore `k` of an array of sixteen. -/
abbrev sm (A : DmaSems sig S16) (k : Fin 16) : DmaSem sig :=
  ((A.slice (Rect.unit (s := S16) ![k.val] S1.size (inbS k))).squeeze S_ squeezes_S1_S_).sem

/-- The neighbour along the first mesh axis and the one along the second. -/
abbrev xn (d : Dev nD) : Dev nD := ⟨k0_dev3 d, k0_dev3_lt d⟩
abbrev yn (d : Dev nD) : Dev nD := ⟨k0_dev19 d, k0_dev19_lt d⟩

abbrev PR (F : FTy → Type) [FloatOps F] (α : Type) := Prog (TpuEff nD τ sig (Elt F) Λ₀ .tc) α

section steps

variable (arg0 : Memref sig .tc .hbm S2048x2048 .f32) (arg1 : Memref sig .tc .hbm S2048x2048 .f32)
  (arg2 : Memref sig .tc .vmem S1x2048 .f32)
  (arg3 : Memref sig .tc .hbm S2048x2048 .f32) (arg4 : Memref sig .tc .vmem S1024x2048 .f32)
  (arg5 : Memref sig .tc .vmem S1024x2048 .f32) (arg6 : Memref sig .tc .vmem S1024x2048 .bf16) (harg6 : arg6.IsWhole)
  (arg7 : Memref sig .tc .vmem S1024x2048 .bf16) (harg7 : arg7.IsWhole) (arg8 : Memref sig .tc .vmem S1024x2048 .bf16) (harg8 : arg8.IsWhole)
  (arg9 : Memref sig .tc .vmem S1024x2048 .bf16) (harg9 : arg9.IsWhole)
  (arg10 arg11 arg12 arg13 arg14 arg15 : DmaSems sig S16)

/-- Start the two input copies of chunk `k`. -/
def stepA (d : Dev nD) (k : Fin 16) : PR F PUnit := do
  Prog.lift (.enqueueDma (oh1 arg0 d k) (.here (ch arg4 k)) (.dma (sm arg10 k)) (View.wordExact_bits rfl) (View.wordExact_bits rfl) ⟨Or.inl rfl, trivial⟩)
  Prog.lift (.enqueueDma (oh1 arg1 d k) (.here (ch arg5 k)) (.dma (sm arg11 k)) (View.wordExact_bits rfl) (View.wordExact_bits rfl) ⟨Or.inl rfl, trivial⟩)

/-- Tell both neighbours that this device has entered the kernel, and wait for both. -/
def stepB (d : Dev nD) : PR F PUnit := do
  semSignalWord (xn d) (SemArray.scalar (sig.barrier 0 rfl) : Sems sig S_).sem 1#32
  semSignalWord (yn d) (SemArray.scalar (sig.barrier 0 rfl) : Sems sig S_).sem 1#32
  semWaitWord (SemArray.scalar (sig.barrier 0 rfl) : Sems sig S_).sem 2#32

/-- Send chunk `k` of the partial, rounded, to the first neighbour. -/
def stepX (d : Dev nD) (k : Fin 16) : PR F PUnit := do
  Prog.lift (.waitDma2 (sm arg10 k) (oh1 arg0 d k) (ch arg4 k) (View.wordExact_bits rfl) (View.wordExact_bits rfl))
  let v : Vec F S64x2048 .f32 ← Prog.lift (.load arg4 (rc k).toLoadRect (View.loadsAt_vmem h_S64x2048))
  let _u : Vec F S64x2048 .bf16 ← Prog.lift (.load arg6 (rc k).toLoadRect (View.loadsAt_vmem h_S64x2048))
  Prog.lift (.store arg6 (rc k) (k0_pay1 v) Finset.univ (View.stores_vmem h_S64x2048 (harg6.storeExact_slice rfl _ (packedC k)) (fun _ => rfl)) (.inl rfl))
  Prog.lift (.enqueueDma (ch arg6 k) (.remote (Dev.tc (xn d)) (ch arg7 k) (.dma (sm arg12 k))) (.dma (sm arg13 k))
    (harg6.wordExact_slice rfl _ (wordsC k)) (harg7.wordExact_slice rfl _ (wordsC k)) ⟨⟨rfl, Or.inl rfl⟩, trivial⟩)

/-- Read the scale. -/
def stepG : PR F (FVec F S1x2048 .bf16) := do
  let v : Vec F S1x2048 .f32 ← Prog.lift (.load arg2 (Rect.unit (s := S1x2048) ![0, 0] S1x2048.size inb_S1x2048_S1x2048_0_0).toLoadRect (View.loadsAt_vmem h_S1x2048))
  pure (k0_pay19 v)

/-- Add up and normalise chunk `k`, send it to the second neighbour and start its copy out. -/
def stepY (gb : FVec F S1x2048 .bf16) (d : Dev nD) (k : Fin 16) : PR F PUnit := do
  Prog.lift (.waitDma2 (sm arg12 k) (ch arg7 k) (ch arg6 k) (harg7.wordExact_slice rfl _ (wordsC k)) (harg6.wordExact_slice rfl _ (wordsC k)))
  Prog.lift (.waitDma2 (sm arg13 k) (ch arg6 k) (ch arg7 k) (harg6.wordExact_slice rfl _ (wordsC k)) (harg7.wordExact_slice rfl _ (wordsC k)))
  Prog.lift (.waitDma2 (sm arg11 k) (oh1 arg1 d k) (ch arg5 k) (View.wordExact_bits rfl) (View.wordExact_bits rfl))
  let a : Vec F S64x2048 .bf16 ← Prog.lift (.load arg6 (rc k).toLoadRect (View.loadsAt_vmem h_S64x2048))
  let b : Vec F S64x2048 .bf16 ← Prog.lift (.load arg7 (rc k).toLoadRect (View.loadsAt_vmem h_S64x2048))
  let r : Vec F S64x2048 .f32 ← Prog.lift (.load arg5 (rc k).toLoadRect (View.loadsAt_vmem h_S64x2048))
  let _u : Vec F S64x2048 .bf16 ← Prog.lift (.load arg8 (rc k).toLoadRect (View.loadsAt_vmem h_S64x2048))
  Prog.lift (.store arg8 (rc k) (k0_pay31 (k0_pay30 gb a b r)) Finset.univ (View.stores_vmem h_S64x2048 (harg8.storeExact_slice rfl _ (packedC k)) (fun _ => rfl)) (.inl rfl))
  Prog.lift (.enqueueDma (ch arg8 k) (.remote (Dev.tc (yn d)) (ch arg9 k) (.dma (sm arg14 k))) (.dma (sm arg15 k))
    (harg8.wordExact_slice rfl _ (wordsC k)) (harg9.wordExact_slice rfl _ (wordsC k)) ⟨⟨rfl, Or.inl rfl⟩, trivial⟩)
  let _u : Vec F S64x2048 .f32 ← Prog.lift (.load arg4 (rc k).toLoadRect (View.loadsAt_vmem h_S64x2048))
  Prog.lift (.store arg4 (rc k) (k0_pay32 (k0_pay30 gb a b r)) Finset.univ (View.stores_vmem_bits_univ h_S64x2048 rfl) (.inl rfl))
  Prog.lift (.enqueueDma (ch arg4 k) (.here (oh1 arg3 d k)) (.dma (sm arg10 k)) (View.wordExact_bits rfl) (View.wordExact_bits rfl) ⟨Or.inl rfl, trivial⟩)

/-- Take the second neighbour's chunk `k` and start its copy out. -/
def stepD (d : Dev nD) (k : Fin 16) : PR F PUnit := do
  Prog.lift (.waitDma2 (sm arg14 k) (ch arg9 k) (ch arg8 k) (harg9.wordExact_slice rfl _ (wordsC k)) (harg8.wordExact_slice rfl _ (wordsC k)))
  Prog.lift (.waitDma2 (sm arg15 k) (ch arg8 k) (ch arg9 k) (harg8.wordExact_slice rfl _ (wordsC k)) (harg9.wordExact_slice rfl _ (wordsC k)))
  let v : Vec F S64x2048 .bf16 ← Prog.lift (.load arg9 (rc k).toLoadRect (View.loadsAt_vmem h_S64x2048))
  let _u : Vec F S64x2048 .f32 ← Prog.lift (.load arg5 (rc k).toLoadRect (View.loadsAt_vmem h_S64x2048))
  Prog.lift (.store arg5 (rc k) (k0_pay33 v) Finset.univ (View.stores_vmem_bits_univ h_S64x2048 rfl) (.inl rfl))
  Prog.lift (.enqueueDma (ch arg5 k) (.here (oh2 arg3 d k)) (.dma (sm arg11 k)) (View.wordExact_bits rfl) (View.wordExact_bits rfl) ⟨Or.inl rfl, trivial⟩)

/-- Wait for the two copies out of chunk `k`. -/
def stepF (d : Dev nD) (k : Fin 16) : PR F PUnit := do
  Prog.lift (.waitDma2 (sm arg10 k) (ch arg4 k) (oh1 arg3 d k) (View.wordExact_bits rfl) (View.wordExact_bits rfl))
  Prog.lift (.waitDma2 (sm arg11 k) (ch arg5 k) (oh2 arg3 d k) (View.wordExact_bits rfl) (View.wordExact_bits rfl))

/-- The phases in which one chunk is worked on by itself. -/
inductive Ph | A | X | Y | D | Z
  deriving DecidableEq

def step (gb : FVec F S1x2048 .bf16) (d : Dev nD) : Ph × Fin 16 → PR F PUnit
  | (.A, k) => stepA arg0 arg1 arg4 arg5 arg10 arg11 d k
  | (.X, k) => stepX arg0 arg4 arg6 harg6 arg7 harg7 arg10 arg12 arg13 d k
  | (.Y, k) => stepY arg1 arg3 arg4 arg5 arg6 harg6 arg7 harg7 arg8 harg8 arg9 harg9 arg10 arg11 arg12 arg13 arg14 arg15 gb d k
  | (.D, k) => stepD arg3 arg5 arg8 harg8 arg9 harg9 arg11 arg14 arg15 d k
  | (.Z, k) => stepF arg3 arg4 arg5 arg10 arg11 d k

end steps

/-- Run a function over a list, in order. -/
def runL {α : Type} (f : α → PR F PUnit) : List α → PR F PUnit
  | [] => pure ⟨⟩
  | a :: l => f a >>= fun _ => runL f l

/-- The chunks in order. -/
def ks : List (Fin 16) := [0, 1, 2, 3, 4, 5, 6, 7, 8, 9, 10, 11, 12, 13, 14, 15]

def listA : List (Ph × Fin 16) := ks.map (Prod.mk .A)
def listX : List (Ph × Fin 16) := ks.map (Prod.mk .X)
/-- The normalising steps, each chunk drained two steps later, and the last waits. -/
def listY : List (Ph × Fin 16) :=
  [(.Y, 0), (.Y, 1), (.Y, 2), (.D, 0), (.Y, 3), (.D, 1), (.Y, 4), (.D, 2), (.Y, 5), (.D, 3), (.Y, 6), (.D, 4), (.Y, 7), (.D, 5),
    (.Y, 8), (.D, 6), (.Y, 9), (.D, 7), (.Y, 10), (.D, 8), (.Y, 11), (.D, 9), (.Y, 12), (.D, 10), (.Y, 13), (.D, 11),
    (.Y, 14), (.D, 12), (.Y, 15), (.D, 13), (.D, 14), (.D, 15)] ++ ks.map (Prod.mk .Z)

section whole

variable (arg0 : Memref sig .tc .hbm S2048x2048 .f32) (harg0 : arg0.IsWhole) (arg1 : Memref sig .tc .hbm S2048x2048 .f32) (harg1 : arg1.IsWhole)
  (arg2 : Memref sig .tc .vmem S1x2048 .f32) (harg2 : arg2.IsWhole)
  (arg3 : Memref sig .tc .hbm S2048x2048 .f32) (harg3 : arg3.IsWhole) (arg4 : Memref sig .tc .vmem S1024x2048 .f32) (harg4 : arg4.IsWhole)
  (arg5 : Memref sig .tc .vmem S1024x2048 .f32) (harg5 : arg5.IsWhole) (arg6 : Memref sig .tc .vmem S1024x2048 .bf16) (harg6 : arg6.IsWhole)
  (arg7 : Memref sig .tc .vmem S1024x2048 .bf16) (harg7 : arg7.IsWhole) (arg8 : Memref sig .tc .vmem S1024x2048 .bf16) (harg8 : arg8.IsWhole)
  (arg9 : Memref sig .tc .vmem S1024x2048 .bf16) (harg9 : arg9.IsWhole)
  (arg10 arg11 arg12 arg13 arg14 arg15 : DmaSems sig S16)

/-- The kernel function, by steps. -/
def body : PR F PUnit := do
  let d : Dev nD ← Prog.lift .deviceId
  runL (fun k => stepA arg0 arg1 arg4 arg5 arg10 arg11 d k) ks
  stepB d
  runL (fun k => stepX arg0 arg4 arg6 harg6 arg7 harg7 arg10 arg12 arg13 d k) ks
  let gb ← stepG arg2
  runL (step arg0 arg1 arg3 arg4 arg5 arg6 harg6 arg7 harg7 arg8 harg8 arg9 harg9 arg10 arg11 arg12 arg13 arg14 arg15 gb d) listY

set_option maxRecDepth 65536 in
set_option maxHeartbeats 4000000 in
theorem cc0_body_eq :
    cc0_body (F := F) arg0 harg0 arg1 harg1 arg2 harg2 arg3 harg3 arg4 harg4 arg5 harg5 arg6 harg6 arg7 harg7 arg8 harg8 arg9 harg9
        arg10 arg11 arg12 arg13 arg14 arg15
      = body arg0 arg1 arg2 arg3 arg4 arg5 arg6 harg6 arg7 harg7 arg8 harg8 arg9 harg9 arg10 arg11 arg12 arg13 arg14 arg15 := rfl

end whole

end Cert.AR

end
-- ==== Proof.Protocol.lean ====
/- The protocol of the kernel: its semaphore cells, what each round of a cell is worth and hands over, the levels, and
   what a device still owes while its chunks are at given stages. -/
module

public import proofs.«01_k».proof.Proof.Steps
public import proofs.«01_k».proof.Proof.Gen.KernelIdeal.Launch
public import Idealize.ShloMosaic.Lib.Pipeline.RegionTalk
public import Idealize.ShloMosaic.Lib.Rounds
public import Idealize.ShloMosaic.Lib.Memref

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's copy (duties `Unit`) and this protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

theorem xn_xn (d : Dev nD) : xn (xn d) = d := by revert d; decide
theorem yn_yn (d : Dev nD) : yn (yn d) = d := by revert d; decide

/-! ## Buffers and cells -/

abbrev mP : Memref sig .tc .hbm S2048x2048 .f32 := Memref.whole main_v1
abbrev mR : Memref sig .tc .hbm S2048x2048 .f32 := Memref.whole main_arg1
abbrev mO : Memref sig .tc .hbm S2048x2048 .f32 := Memref.whole main_v3
abbrev s0 : Memref sig .tc .vmem S1024x2048 .f32 := Memref.whole cc0_scratch0
abbrev s1 : Memref sig .tc .vmem S1024x2048 .f32 := Memref.whole cc0_scratch1
abbrev s2 : Memref sig .tc .vmem S1024x2048 .bf16 := Memref.whole cc0_scratch2
abbrev s3 : Memref sig .tc .vmem S1024x2048 .bf16 := Memref.whole cc0_scratch3
abbrev s4 : Memref sig .tc .vmem S1024x2048 .bf16 := Memref.whole cc0_scratch4
abbrev s5 : Memref sig .tc .vmem S1024x2048 .bf16 := Memref.whole cc0_scratch5

/-- The barrier semaphore, and semaphore `k` of the six arrays. -/
abbrev barS : Sem sig := (SemArray.scalar (sig.barrier 0 rfl) : Sems sig S_).sem
abbrev lpS (k : Fin 16) : DmaSem sig := sm cc0_scratch6 k
abbrev lrS (k : Fin 16) : DmaSem sig := sm cc0_scratch7 k
abbrev xsS (k : Fin 16) : DmaSem sig := sm cc0_scratch8 k
abbrev xrS (k : Fin 16) : DmaSem sig := sm cc0_scratch9 k
abbrev ysS (k : Fin 16) : DmaSem sig := sm cc0_scratch10 k
abbrev yrS (k : Fin 16) : DmaSem sig := sm cc0_scratch11 k

/-- The kernel's own semaphores, by array and chunk. -/
def osem (ak : Fin 6 × Fin 16) : SemLoc sig :=
  match ak with
  | (0, k) => .dma (lpS k)
  | (1, k) => .dma (lrS k)
  | (2, k) => .dma (xsS k)
  | (3, k) => .dma (xrS k)
  | (4, k) => .dma (ysS k)
  | (5, k) => .dma (yrS k)

abbrev barC (c : Dev nD) : GSem nD τ sig := ((c : Thread nD τ), .reg barS)
abbrev lpC (c : Dev nD) (k : Fin 16) : GSem nD τ sig := ((c : Thread nD τ), .dma (lpS k))
abbrev lrC (c : Dev nD) (k : Fin 16) : GSem nD τ sig := ((c : Thread nD τ), .dma (lrS k))
abbrev xsC (c : Dev nD) (k : Fin 16) : GSem nD τ sig := ((c : Thread nD τ), .dma (xsS k))
abbrev xrC (c : Dev nD) (k : Fin 16) : GSem nD τ sig := ((c : Thread nD τ), .dma (xrS k))
abbrev ysC (c : Dev nD) (k : Fin 16) : GSem nD τ sig := ((c : Thread nD τ), .dma (ysS k))
abbrev yrC (c : Dev nD) (k : Fin 16) : GSem nD τ sig := ((c : Thread nD τ), .dma (yrS k))

/-- Which array and chunk a semaphore is of: arrays 0 to 5, 6 the barrier, 7 none of them. -/
def dec : SemLoc sig → ℕ × Fin 16
  | .reg _ => (6, 0)
  | .dma i => if i.val = 0 then (7, 0) else ((i.val - 1) / 16, ⟨(i.val - 1) % 16, Nat.mod_lt _ (by decide)⟩)

theorem dec_bar : dec (.reg barS) = (6, 0) := rfl
theorem dec_lp (k : Fin 16) : dec (.dma (lpS k)) = (0, k) := by revert k; decide
theorem dec_lr (k : Fin 16) : dec (.dma (lrS k)) = (1, k) := by revert k; decide
theorem dec_xs (k : Fin 16) : dec (.dma (xsS k)) = (2, k) := by revert k; decide
theorem dec_xr (k : Fin 16) : dec (.dma (xrS k)) = (3, k) := by revert k; decide
theorem dec_ys (k : Fin 16) : dec (.dma (ysS k)) = (4, k) := by revert k; decide
theorem dec_yr (k : Fin 16) : dec (.dma (yrS k)) = (5, k) := by revert k; decide
theorem dec_osem (a : Fin 6) (k : Fin 16) : dec (osem (a, k)) = (a.val, k) := by
  match a with
  | 0 => exact dec_lp k
  | 1 => exact dec_lr k
  | 2 => exact dec_xs k
  | 3 => exact dec_xr k
  | 4 => exact dec_ys k
  | 5 => exact dec_yr k

/-- What one chunk's transfer credits: into a scratch of 32-bit elements, out to the result, into a scratch of 16-bit elements. -/
abbrev NF : ℕ := (ch s0 0).view.dmaCredit
abbrev NO : ℕ := (oh1 mO 0 0).view.dmaCredit
abbrev NB : ℕ := (ch s2 0).view.dmaCredit
theorem NF_pos : 0 < NF := View.dmaCredit_pos _ (by decide)
theorem NO_pos : 0 < NO := View.dmaCredit_pos _ (by decide)
theorem NB_pos : 0 < NB := View.dmaCredit_pos _ (by decide)

/-! ## Contents -/

/-- What the devices hold when the kernel is entered: the partial, the residual, and the rounded scale. -/
structure Inp (F : FTy → Type) [FloatOps F] where
  p : Dev nD → FVec F S2048x2048 .f32
  r : Dev nD → FVec F S2048x2048 .f32
  g : Dev nD → FVec F S1x2048 .bf16

variable (I : Inp F)

/-- Chunk `k` of the half device `c` reduces, of the partial and of the residual. -/
def pA (c : Dev nD) (k : Fin 16) : FVec F S64x2048 .f32 := fun j => I.p c ((ro1 c k).emb j)
def rA (c : Dev nD) (k : Fin 16) : FVec F S64x2048 .f32 := fun j => I.r c ((ro1 c k).emb j)
/-- The rounded chunk of the partial, which is sent. -/
def xsA (c : Dev nD) (k : Fin 16) : FVec F S64x2048 .bf16 := k0_pay1 (pA I c k)
/-- The normalised chunk; it as sent and as copied out; the one received as copied out. -/
def nA (c : Dev nD) (k : Fin 16) : FVec F S64x2048 .bf16 := k0_pay30 (I.g c) (xsA I c k) (xsA I (xn c) k) (rA I c k)
def ysA (c : Dev nD) (k : Fin 16) : FVec F S64x2048 .bf16 := k0_pay31 (nA I c k)
def o0 (c : Dev nD) (k : Fin 16) : FVec F S64x2048 .f32 := k0_pay32 (nA I c k)
def o1 (c : Dev nD) (k : Fin 16) : FVec F S64x2048 .f32 := k0_pay33 (ysA I (yn c) k)

/-! ## The schedule -/

/-- A chunk owned by device `c` at contents that are not chosen. -/
def some' {sp : Space} {s : Shape} {e : EltTy} (c : Dev nD) (M : Memref sig .tc sp s e) : sProp 𝕄 :=
  iprop(∃ X, ownsTc c M fullShare X)

instance some'_storable {sp : Space} {s : Shape} {e : EltTy} (c : Dev nD) (M : Memref sig .tc sp s e) :
    BI.Storable (upEmb : UEmb _ 𝕄) (some' (F := F) c M) := by unfold some'; infer_instance

/-- The receiving chunk of device `c`, and that its cell is open: what a neighbour needs in order to send. -/
def hx (c : Dev nD) (k : Fin 16) : sProp 𝕄 := iprop(some' c (ch s3 k) ∗ reached ER (xrC c k) 0)
def hy (c : Dev nD) (k : Fin 16) : sProp 𝕄 := iprop(some' c (ch s5 k) ∗ reached ER (yrC c k) 0)

/-- What round `r` of the cell of array `a`, chunk `k`, on device `c` hands over. -/
def pay (a : ℕ) (c : Dev nD) (k : Fin 16) (r : ℕ) (b : Bool) : sProp 𝕄 :=
  match a with
  | 0 => if r = 0 then iprop(ownsTc c (oh1 mP c k) fullShare (pA I c k) ∗ ownsTc c (ch s0 k) fullShare (pA I c k))
      else iprop(ownsTc c (ch s0 k) fullShare (o0 I c k) ∗ ownsTc c (oh1 mO c k) fullShare (o0 I c k))
  | 1 => if r = 0 then iprop(ownsTc c (oh1 mR c k) fullShare (rA I c k) ∗ ownsTc c (ch s1 k) fullShare (rA I c k))
      else iprop(ownsTc c (ch s1 k) fullShare (o1 I c k) ∗ ownsTc c (oh2 mO c k) fullShare (o1 I c k))
  | 2 => ownsTc c (ch s2 k) fullShare (xsA I c k)
  | 3 => ownsTc c (ch s3 k) fullShare (xsA I (xn c) k)
  | 4 => ownsTc c (ch s4 k) fullShare (ysA I c k)
  | 5 => ownsTc c (ch s5 k) fullShare (ysA I (yn c) k)
  | 6 => if b then bigSep Finset.univ (hy (F := F) (yn c)) else bigSep Finset.univ (hx (F := F) (xn c))
  | _ => iprop(emp)

/-- The duties of a round: two of the barrier's one round, one of each round of a transfer's cell. -/
def dut (a : ℕ) (r : ℕ) : Finset Bool :=
  if a = 6 then (if r = 0 then Finset.univ else ∅)
  else if a ≤ 1 then (if r ≤ 1 then {false} else ∅)
  else if a ≤ 5 then (if r = 0 then {false} else ∅) else ∅
def amt (a : ℕ) (r : ℕ) : ℕ := if a = 6 then 1 else if a ≤ 1 then (if r = 0 then NF else NO) else NB

theorem amt_pos (a r : ℕ) : 0 < amt a r := by
  unfold amt
  split
  · exact Nat.one_pos
  · split
    · split
      · exact NF_pos
      · exact NO_pos
    · exact NB_pos

def Rd : Rounds.Schedule (GSem nD τ sig) Bool 𝕄 where
  duties g r := if g.1.2 = .tc then dut (dec g.2).1 r else ∅
  unitless _ := False
  amount g r _ := amt (dec g.2).1 r
  payload g r b := pay I (dec g.2).1 g.1.1 (dec g.2).2 r b
  amount_pos _ _ _ _ := amt_pos _ _

instance hx_storable (c : Dev nD) (k : Fin 16) : BI.Storable (upEmb : UEmb _ 𝕄) (hx (F := F) c k) := by unfold hx; infer_instance
instance hy_storable (c : Dev nD) (k : Fin 16) : BI.Storable (upEmb : UEmb _ 𝕄) (hy (F := F) c k) := by unfold hy; infer_instance

instance Rd_storable (g : GSem nD τ sig) (r : ℕ) (b : Bool) : BI.Storable (upEmb : UEmb _ 𝕄) ((Rd I).payload g r b) := by
  show BI.Storable upEmb (pay I (dec g.2).1 g.1.1 (dec g.2).2 r b)
  unfold pay
  (repeat' split) <;> infer_instance

section Sched

variable (c : Dev nD) (k : Fin 16)

theorem duties_at (s : SemLoc sig) (r : ℕ) : (Rd I).duties ((c : Thread nD τ), s) r = dut (dec s).1 r := by
  dsimp only [Rd]; exact if_pos rfl
theorem amount_at (s : SemLoc sig) (r : ℕ) (b : Bool) : (Rd I).amount ((c : Thread nD τ), s) r b = amt (dec s).1 r := rfl
theorem payload_at (s : SemLoc sig) (r : ℕ) (b : Bool) :
    (Rd I).payload ((c : Thread nD τ), s) r b = pay I (dec s).1 c (dec s).2 r b := rfl

/-- A transfer's cell has one duty in each of its rounds; -/
theorem duty_mem (s : SemLoc sig) (r : ℕ) (h : dut (dec s).1 r = {false}) : false ∈ (Rd I).duties ((c : Thread nD τ), s) r := by
  rw [duties_at, h]; exact Finset.mem_singleton_self _
/-- it expects what that is worth, -/
theorem expect_one (s : SemLoc sig) (r : ℕ) (h : dut (dec s).1 r = {false}) :
    (Rd I).expect ((c : Thread nD τ), s) r = amt (dec s).1 r := by
  unfold Schedule.expect Schedule.amountOf; rw [duties_at, h, Finset.sum_singleton, amount_at]
/-- and hands over its payload. -/
theorem rest_one (s : SemLoc sig) (r : ℕ) (h : dut (dec s).1 r = {false}) :
    bigSep ((Rd I).duties ((c : Thread nD τ), s) r \ ∅) (fun b => (Rd I).payload ((c : Thread nD τ), s) r b)
      = pay I (dec s).1 c (dec s).2 r false := by
  rw [Finset.sdiff_empty, duties_at, h, bigSep_singleton, payload_at]

theorem duties_bar : (Rd I).duties (barC c) 0 = Finset.univ := by rw [duties_at, dec_bar]; rfl
theorem expect_bar : (Rd I).expect (barC c) 0 = 2 := by
  unfold Schedule.expect Schedule.amountOf; rw [duties_bar]; rfl
theorem rest_bar : bigSep ((Rd I).duties (barC c) 0 \ ∅) (fun b => (Rd I).payload (barC c) 0 b)
    = iprop(bigSep Finset.univ (hx (F := F) (xn c)) ∗ bigSep Finset.univ (hy (F := F) (yn c))) := by
  rw [Finset.sdiff_empty, duties_bar, bigSep_univ_eq_bigSepL [false, true] (by decide) (by decide), bigSepL_cons_cons, bigSepL_singleton]
  rfl

theorem duties_later (s : SemLoc sig) : ∀ r, 2 ≤ r → (Rd I).duties ((c : Thread nD τ), s) r = ∅ := fun r hr => by
  rw [duties_at]
  simp only [dut, show ¬ r = 0 by omega, show ¬ r ≤ 1 by omega, if_false, ite_self]
theorem duties_later1 (s : SemLoc sig) (h : 2 ≤ (dec s).1) : ∀ r, 1 ≤ r → (Rd I).duties ((c : Thread nD τ), s) r = ∅ := fun r hr => by
  rw [duties_at]
  simp only [dut, show ¬ r = 0 by omega, show ¬ (dec s).1 ≤ 1 by omega, if_false, ite_self]

end Sched

/-! ## Levels -/

def L (g : GSem nD τ sig) : Finset Unit := if g.1.2 = .tc then {()} else ∅
/-- The barrier at 1, what comes from the first neighbour at 2, what comes from the second above that in the order of the
    chunks, everything else at 0. -/
def lvl (s : ℕ × Fin 16) : ℕ := if s.1 = 6 then 1 else if s.1 = 3 then 2 else if s.1 = 5 then 3 + s.2.val else 0
def lv (g : GSem nD τ sig) (_ : Unit) : ℕ := lvl (dec g.2)

theorem L_of_ne (g : GSem nD τ sig) (h : g.1.2 ≠ .tc) : L g = ∅ := if_neg h
theorem L_tc (c : Dev nD) (s : SemLoc sig) : L ((c : Thread nD τ), s) = {()} := if_pos rfl

/-! ## What a device owes -/

/-- A device whose chunk `k` is at stage `σ k` owes its first neighbour the chunks that have not passed stage 2, and its
    second those that have not passed stage 3. -/
def Ox (d : Dev nD) (σ : Fin 16 → ℕ) : CellTallies nD τ sig Unit := ∑ k, if σ k ≤ 2 then tallyAt (xrC (xn d) k) () NB else 0
def Oy (d : Dev nD) (σ : Fin 16 → ℕ) : CellTallies nD τ sig Unit := ∑ k, if σ k ≤ 3 then tallyAt (yrC (yn d) k) () NB else 0
def Ow (d : Dev nD) (σ : Fin 16 → ℕ) : CellTallies nD τ sig Unit := Ox d σ + Oy d σ
/-- Before the barrier it owes each neighbour one unit as well. -/
def Oall (d : Dev nD) : CellTallies nD τ sig Unit := Ow d (fun _ => 0) + tallyAt (barC (yn d)) () 1 + tallyAt (barC (xn d)) () 1

theorem sum_tally_pos {f : Fin 16 → GSem nD τ sig} {P : Fin 16 → Prop} [DecidablePred P] {n : ℕ} {g : GSem nD τ sig} {u : Unit}
    (h : 0 < (∑ k, if P k then tallyAt (f k) () n else 0 : CellTallies nD τ sig Unit) g u) : ∃ k, P k ∧ g = f k := by
  rw [Finset.sum_apply, Finsupp.finset_sum_apply] at h
  obtain ⟨k, -, hk⟩ := Finset.exists_ne_zero_of_sum_ne_zero (Nat.pos_iff_ne_zero.mp h)
  refine ⟨k, ?_⟩
  by_cases hp : P k
  · rw [if_pos hp, tallyAt_apply] at hk
    by_cases hg : g = f k ∧ u = ()
    · exact ⟨hp, hg.1⟩
    · rw [if_neg hg] at hk; exact absurd rfl hk
  · rw [if_neg hp] at hk; exact absurd rfl hk

theorem Ow_pos {d : Dev nD} {σ : Fin 16 → ℕ} {g : GSem nD τ sig} {u : Unit} (h : 0 < Ow d σ g u) :
    (∃ k, σ k ≤ 2 ∧ g = xrC (xn d) k) ∨ ∃ k, σ k ≤ 3 ∧ g = yrC (yn d) k := by
  unfold Ow at h
  rw [Pi.add_apply, Finsupp.add_apply] at h
  rcases Nat.pos_iff_ne_zero.mp h |> fun h => (by omega : 0 < Ox d σ g u ∨ 0 < Oy d σ g u) with h | h
  · exact .inl (sum_tally_pos h)
  · exact .inr (sum_tally_pos h)

/-- The sum with chunk `k` paid. -/
theorem sum_pay {f : Fin 16 → CellTallies nD τ sig Unit} {σ : Fin 16 → ℕ} {k : Fin 16} {n v : ℕ} (hk : σ k ≤ n) (hv : n < v) :
    (∑ j, if σ j ≤ n then f j else 0) = (∑ j, if Function.update σ k v j ≤ n then f j else 0) + f k := by
  rw [← Finset.add_sum_erase _ _ (Finset.mem_univ k), ← Finset.add_sum_erase (a := k) Finset.univ (fun j => if Function.update σ k v j ≤ n then f j else 0) (Finset.mem_univ k),
    if_pos hk, Function.update_self, if_neg (by omega), zero_add, add_comm]
  congr 1
  exact Finset.sum_congr rfl fun j hj => by rw [Function.update_of_ne (Finset.ne_of_mem_erase hj)]
/-- A change of stage that passes nothing pays nothing. -/
theorem sum_keep {f : Fin 16 → CellTallies nD τ sig Unit} {σ : Fin 16 → ℕ} {k : Fin 16} {n v : ℕ} (hk : σ k ≤ n ↔ v ≤ n) :
    (∑ j, if σ j ≤ n then f j else 0) = (∑ j, if Function.update σ k v j ≤ n then f j else 0) :=
  Finset.sum_congr rfl fun j _ => by
    by_cases h : j = k
    · subst h; rw [Function.update_self]; exact if_congr hk rfl rfl
    · rw [Function.update_of_ne h]

theorem Ow_X {d : Dev nD} {σ : Fin 16 → ℕ} {k : Fin 16} (h : σ k = 2) :
    Ow d σ = Ow d (Function.update σ k 3) + tallyAt (xrC (xn d) k) () NB := by
  unfold Ow Ox Oy
  rw [sum_pay (σ := σ) (k := k) (n := 2) (v := 3) (by omega) (by omega), sum_keep (σ := σ) (k := k) (n := 3) (v := 3) (by omega)]
  exact add_right_comm _ _ _
theorem Ow_Y {d : Dev nD} {σ : Fin 16 → ℕ} {k : Fin 16} (h : σ k = 3) :
    Ow d σ = Ow d (Function.update σ k 4) + tallyAt (yrC (yn d) k) () NB := by
  unfold Ow Ox Oy
  rw [sum_pay (σ := σ) (k := k) (n := 3) (v := 4) (by omega) (by omega), sum_keep (σ := σ) (k := k) (n := 2) (v := 4) (by omega)]
  exact (add_assoc _ _ _).symm
theorem Ow_keep {d : Dev nD} {σ : Fin 16 → ℕ} {k : Fin 16} {v : ℕ} (h2 : σ k ≤ 2 ↔ v ≤ 2) (h3 : σ k ≤ 3 ↔ v ≤ 3) :
    Ow d σ = Ow d (Function.update σ k v) := by
  unfold Ow Ox Oy
  rw [sum_keep (σ := σ) (k := k) (n := 2) (v := v) h2, sum_keep (σ := σ) (k := k) (n := 3) (v := v) h3]
theorem Ow_congr {d : Dev nD} {σ σ' : Fin 16 → ℕ} (h2 : ∀ k, σ k ≤ 2 ↔ σ' k ≤ 2) (h3 : ∀ k, σ k ≤ 3 ↔ σ' k ≤ 3) : Ow d σ = Ow d σ' := by
  unfold Ow Ox Oy
  rw [Finset.sum_congr rfl fun k _ => if_congr (h2 k) rfl rfl, Finset.sum_congr (s₁ := Finset.univ) rfl fun k _ => if_congr (h3 k) rfl rfl]
theorem Ow_done {d : Dev nD} {σ : Fin 16 → ℕ} (h : ∀ k, 4 ≤ σ k) : Ow d σ = 0 := by
  unfold Ow Ox Oy
  rw [Finset.sum_eq_zero fun k _ => if_neg (by have := h k; omega), Finset.sum_eq_zero fun k _ => if_neg (by have := h k; omega), add_zero]

/-- A wait at a cell whose level is below that of everything owed. -/
theorem mayWait_Ow (d : Dev nD) (s : SemLoc sig) (σ : Fin 16 → ℕ)
    (hx : ∀ k, σ k ≤ 2 → lvl (dec s) < 2) (hy : ∀ k, σ k ≤ 3 → lvl (dec s) < 3 + k.val) :
    (levAts L lv : sProp 𝕄) ⊢ MayWait (d : Thread nD τ) s () (Ow d σ) :=
  MayOwe.of_cut (L := L) (lev := lv) (lvl (dec s))
    (fun p hp => by rw [Finset.mem_singleton.mp hp, L_tc]; exact Finset.mem_singleton_self _)
    (fun g u hg => by rcases Ow_pos hg with ⟨k, -, rfl⟩ | ⟨k, -, rfl⟩ <;> exact Finset.mem_singleton_self _)
    (fun p hp => by rw [Finset.mem_singleton.mp hp]; exact le_rfl)
    (fun g u hg => by
      rcases Ow_pos hg with ⟨k, h, rfl⟩ | ⟨k, h, rfl⟩
      · refine (hx k h).trans_le ?_
        show 2 ≤ lvl (dec (.dma (xrS k)))
        rw [dec_xr]; exact le_rfl
      · refine (hy k h).trans_le ?_
        show 3 + k.val ≤ lvl (dec (.dma (yrS k)))
        rw [dec_yr]; exact le_rfl)

end Cert.AR

end
-- ==== Proof.Ops.lean ====
/- The kernel's operations on chunks: a load, a store, a local copy, a copy to a neighbour, a wait. -/
module

public import proofs.«01_k».proof.Proof.Protocol

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (I : Inp F) (d : Dev nD)

/-! ## The cells of all devices -/

def barEmb : Dev nD ↪ GSem nD τ sig := ⟨barC, fun a b h => congrArg (fun g : GSem nD τ sig => g.1.1) h⟩
theorem osem_inj : Function.Injective osem := fun x y h => by
  have hx := dec_osem x.1 x.2
  have hy := dec_osem y.1 y.2
  rw [show osem (x.1, x.2) = osem (y.1, y.2) from h, hy] at hx
  obtain ⟨h1, h2⟩ := Prod.mk.inj hx
  exact Prod.ext (Fin.ext h1.symm) h2.symm
/-- Array `a`'s semaphore `k` on device `c`. -/
def scC (x : Dev nD × Fin 6 × Fin 16) : GSem nD τ sig := ((x.1 : Thread nD τ), osem x.2)
def scEmb : Dev nD × Fin 6 × Fin 16 ↪ GSem nD τ sig :=
  ⟨scC, fun _ _ h => Prod.ext (congrArg (fun g : GSem nD τ sig => g.1.1) h) (osem_inj (congrArg Prod.snd h))⟩

def barCells : Finset (GSem nD τ sig) := Finset.univ.map barEmb
def scCells : Finset (GSem nD τ sig) := Finset.univ.map scEmb

theorem bar_mem (c : Dev nD) : barC c ∈ barCells ∪ scCells :=
  Finset.mem_union_left _ (Finset.mem_map_of_mem barEmb (Finset.mem_univ c))
theorem sc_mem (x : Dev nD × Fin 6 × Fin 16) : scC x ∈ barCells ∪ scCells :=
  Finset.mem_union_right _ (Finset.mem_map_of_mem scEmb (Finset.mem_univ x))

/-- Every cell's invariant. -/
def invs (K : GSem nD τ sig → ℕ) : sProp 𝕄 := bigSep (barCells ∪ scCells) fun g => cellInv ER (Rd I) (K g) g
instance invs_persistent (K : GSem nD τ sig → ℕ) : BI.Persistent (invs I K) := by unfold invs; infer_instance

variable (K : GSem nD τ sig → ℕ)

theorem inv_bar (c : Dev nD) : invs I K ⊢ cellInv ER (Rd I) (K (barC c)) (barC c) := bigSep_elim (bar_mem c)
theorem inv_sc (c : Dev nD) (a : Fin 6) (k : Fin 16) : invs I K ⊢ cellInv ER (Rd I) (K (scC (c, a, k))) ((c : Thread nD τ), osem (a, k)) :=
  bigSep_elim (sc_mem (c, a, k))

/-! ## Loads and stores -/

variable {defs : Defs nD τ sig (Elt F) Λ₀}

/-- A load of a rectangle owned as a slice reads what it is owned at. -/
theorem wp_ld {α : Type} {Q : α → sProp 𝕄} {cs : CoreSpace} {s : Shape} {e : EltTy} {M : Memref sig .tc cs s e} {r : Rect s} {hr : ∀ a, r.stride a = 1}
    {hl : M.view.LoadsAt r} {k : (r.shape.Idx → Elt F e) → PR F α} {q : PosShare TreeShare} {X : r.shape.Idx → Elt F e} :
    ownsTc d (M.slice r hr) q X
      ⊢ iprop((ownsTc d (M.slice r hr) q X -∗ wp frame (wpE defs 𝒱₀ (d : Thread nD τ) none) Set.univ (k X) Q)
        -∗ wp frame (wpE defs 𝒱₀ (d : Thread nD τ) none) Set.univ (.op (.load M r hl) k) Q) := by
  simp only [ownsTc, owns]
  iintro ⟨%f, %hf, H⟩ Hk
  iapply (wp_load_rect 𝒱₀ (d : Thread nD τ) none Set.univ (m := M) (r := r) (hl := hl) (k := k)
    (S := (M.slice r hr).view.set) (q := q) (f := f) (Finset.Subset.refl _)) $$ H
  iintro H
  rw [show (M.access r).read (Elt F) f = X from hf]
  iapply Hk
  iexists f
  isplitr
  · ipureintro; exact hf
  · iexact H

/-- A store of a rectangle owned as a slice leaves it at what was stored. -/
theorem wp_st {α : Type} {Q : α → sProp 𝕄} {cs : CoreSpace} {s : Shape} {e : EltTy} {M : Memref sig .tc cs s e} {r : Rect s} {hr : ∀ a, r.stride a = 1}
    {w : r.shape.Idx → Elt F e} {hx : (M.access r).Stores Finset.univ} {hm : (Finset.univ : Finset r.shape.Idx) = Finset.univ ∨ ∀ a, r.stride a = 1}
    {k : PUnit → PR F α} :
    some' d (M.slice r hr)
      ⊢ iprop((ownsTc d (M.slice r hr) fullShare w -∗ wp frame (wpE defs 𝒱₀ (d : Thread nD τ) none) Set.univ (k ⟨⟩) Q)
        -∗ wp frame (wpE defs 𝒱₀ (d : Thread nD τ) none) Set.univ (.op (.store M r w Finset.univ hx hm) k) Q) := by
  simp only [some', ownsTc, owns]
  iintro ⟨%X, %f, -, H⟩ Hk
  iapply (wp_store 𝒱₀ (d : Thread nD τ) none Set.univ (m := M) (r := r) (w := w) (hx := hx) (hm := hm) (k := k) (Q := Q)
    (S := (M.slice r hr).view.set) (f := f) (by rw [View.setOn_univ])) $$ H
  iintro H
  iapply Hk
  iexists _
  isplitr
  rotate_left
  · iexact H
  · ipureintro; exact View.read_write_univ _ _

/-! ## Transfers -/

/-- A copy within the device, paying round `r` of one of its own cells. -/
theorem wp_cp {α : Type} {Q : α → sProp 𝕄} {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    {k : PUnit → PR F α} {X : s.Idx → Elt F e} {κ : ℕ} (r N : ℕ) (hd : dut (dec sem).1 r = {false}) (hN : dst.view.amount sem = N)
    (hk : amt (dec sem).1 r = N)
    (hpay : iprop(ownsTc d dst fullShare X ∗ ownsTc d src fullShare X) ⊢ pay I (dec sem).1 d (dec sem).2 r false) :
    iprop(cellInv ER (Rd I) κ ((d : Thread nD τ), sem) ∗ ownsTc d src fullShare X ∗ some' d dst
        ∗ dutyTok ER ((d : Thread nD τ), sem) r false ∗ reached ER ((d : Thread nD τ), sem) r)
      ⊢ iprop((cred (tallyAt ((d : Thread nD τ), sem) () N) -∗ wp frame (wpE defs 𝒱₀ (d : Thread nD τ) none) Set.univ (k ⟨⟩) Q)
        -∗ wp frame (wpE defs 𝒱₀ (d : Thread nD τ) none) Set.univ (.op (.enqueueDma src (.here dst) sem hsrc hdst hsem) k) Q) := by
  simp only [some', ownsTc, owns] at *
  iintro ⟨HI, ⟨%fs, %hfs, Hs⟩, ⟨%Y, %fd, -, Hd⟩, Ht, Hr⟩ Hk
  iapply (Rounds.wp_copy_pointsTo 𝒱₀ ER (Rd I) (d : Thread nD τ) none (src := src) (dst := dst) (sem := sem) (q := fullShare)
      (fs := fs) (fd := fd) (r := r) (d := false) (κ := κ) (Q := Q) (duty_mem I d sem r hd) () N hN
      ((amount_at I d sem r false).trans hk)
      (by
        rw [payload_at]
        refine BIBase.Entails.trans ?_ hpay
        iintro ⟨H1, H2⟩
        isplitl [H1]
        · iexists _
          isplitr
          rotate_left
          · iexact H1
          · ipureintro; rw [View.read_write_univ]; exact hfs
        · iexists fs
          isplitr
          · ipureintro; exact hfs
          · iexact H2)) $$ [HI Hs Hd Ht Hr]
  · isplitl [HI]; · iexact HI
    isplitl [Hs]; · iexact Hs
    isplitl [Hd]; · iexact Hd
    isplitl [Ht]; · iexact Ht
    iexact Hr
  iexact Hk

/-- A copy to device `c'`, paying round 0 of the sender's cell and of the receiver's. -/
theorem wp_sd {α : Type} {Q : α → sProp 𝕄} {sp sp' : Space} {s : Shape} {e : EltTy} {src : Memref sig .tc sp s e} {dst : Memref sig .tc sp' s e} {sS sem : SemLoc sig}
    (c' : Dev nD) {hsc : dst.view.ref.isScScratch = false}
    {hsrc : src.view.WordExact} {hdst : dst.view.WordExact} {hsem : DmaTarget.Typed sp sem (.remote (c' : Thread nD τ) dst sS hsc)}
    {k : PUnit → PR F α} {X : s.Idx → Elt F e} {κ₁ κ₂ : ℕ} (N : ℕ)
    (hd₁ : dut (dec sS).1 0 = {false}) (hd₂ : dut (dec sem).1 0 = {false}) (hN : dst.view.amount sem = N)
    (hk₁ : amt (dec sS).1 0 = N) (hk₂ : amt (dec sem).1 0 = N)
    {O₀ : CellTallies nD τ sig Unit} (O : CellTallies nD τ sig Unit) (hO : O₀ = O + tallyAt ((c' : Thread nD τ), sem) () N)
    (hpay₁ : ownsTc d src fullShare X ⊢ pay I (dec sS).1 d (dec sS).2 0 false)
    (hpay₂ : ownsTc c' dst fullShare X ⊢ pay I (dec sem).1 c' (dec sem).2 0 false) :
    iprop(cellInv ER (Rd I) κ₁ ((d : Thread nD τ), sS) ∗ cellInv ER (Rd I) κ₂ ((c' : Thread nD τ), sem)
        ∗ ownsTc d src fullShare X ∗ some' c' dst ∗ (∃ W, owes (d : Thread nD τ) O₀ W)
        ∗ dutyTok ER ((d : Thread nD τ), sS) 0 false ∗ reached ER ((d : Thread nD τ), sS) 0
        ∗ dutyTok ER ((c' : Thread nD τ), sem) 0 false ∗ reached ER ((c' : Thread nD τ), sem) 0)
      ⊢ iprop(((cred (tallyAt ((d : Thread nD τ), sS) () N) ∗ ∃ W, owes (d : Thread nD τ) O W)
            -∗ wp frame (wpE defs 𝒱₀ (d : Thread nD τ) none) Set.univ (k ⟨⟩) Q)
        -∗ wp frame (wpE defs 𝒱₀ (d : Thread nD τ) none) Set.univ
            (.op (.enqueueDma src (.remote (c' : Thread nD τ) dst sS hsc) sem hsrc hdst hsem) k) Q) := by
  simp only [some', ownsTc, owns] at *
  iintro ⟨HI, HI', ⟨%fs, %hfs, Hs⟩, ⟨%Y, %fd, -, Hd⟩, ⟨%W, HO⟩, Ht, Hr, Ht', Hr'⟩ Hk
  iapply (Rounds.wp_send_pointsTo 𝒱₀ ER (Rd I) (d : Thread nD τ) none (c' := (c' : Thread nD τ)) (src := src) (dst := dst)
      (sS := sS) (sem := sem) (q := fullShare) (fs := fs) (fd := fd) (r₁ := 0) (r₂ := 0) (d₁ := false) (d₂ := false) (κ₁ := κ₁) (κ₂ := κ₂) (Q := Q)
      (duty_mem I d sS 0 hd₁) (duty_mem I c' sem 0 hd₂) () () N hN
      ((amount_at I d sS 0 false).trans hk₁) ((amount_at I c' sem 0 false).trans hk₂) O hO (W := W)
      (by
        rw [payload_at]
        refine BIBase.Entails.trans ?_ hpay₁
        iintro H
        iexists fs
        isplitr
        · ipureintro; exact hfs
        · iexact H)
      (by
        rw [payload_at]
        refine BIBase.Entails.trans ?_ hpay₂
        iintro H
        iexists _
        isplitr
        rotate_left
        · iexact H
        · ipureintro; rw [View.read_write_univ]; exact hfs)) $$ [HI HI' Hs Hd HO Ht Hr Ht' Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-! ## Waits -/

/-- A wait for round `r` of one of the device's own cells. -/
theorem wp_wt {α : Type} {Q : α → sProp 𝕄} {sp sp' : Space} {s s' : Shape} {e e' : EltTy} {sem : DmaSem sig} {src : Memref sig .tc sp' s' e'} {dst : Memref sig .tc sp s e}
    {hsrc : src.view.WordExact} {hdst : dst.view.WordExact} {k : PUnit → PR F α} {κ : ℕ} (r N : ℕ)
    (hd : dut (dec (.dma sem)).1 r = {false}) (hN : dst.view.dmaCredit = N) (hk : amt (dec (.dma sem)).1 r = N)
    {O : CellTallies nD τ sig Unit} (hO : (levAts L lv : sProp 𝕄) ⊢ MayWait (d : Thread nD τ) (.dma sem) () O) :
    iprop(cellInv ER (Rd I) κ ((d : Thread nD τ), .dma sem) ∗ levAts L lv ∗ cred (tallyAt ((d : Thread nD τ), .dma sem) () N)
        ∗ (∃ W, owes (d : Thread nD τ) O W) ∗ atPos ER ((d : Thread nD τ), .dma sem) r ∅ 0)
      ⊢ iprop((((∃ W, owes (d : Thread nD τ) O W) ∗ atPos ER ((d : Thread nD τ), .dma sem) (r + 1) ∅ 0
              ∗ reached ER ((d : Thread nD τ), .dma sem) (r + 1) ∗ pay I (dec (.dma sem)).1 d (dec (.dma sem)).2 r false)
            -∗ wp frame (wpE defs 𝒱₀ (d : Thread nD τ) none) Set.univ (k ⟨⟩) Q)
        -∗ wp frame (wpE defs 𝒱₀ (d : Thread nD τ) none) Set.univ (.op (.waitDma2 sem src dst hsrc hdst) k) Q) := by
  subst hN
  iintro ⟨HI, Hlev, Hc, ⟨%W, HO⟩, Hat⟩ Hk
  iapply (Rounds.wp_wait_rest_token 𝒱₀ ER (Rd I) (d : Thread nD τ) none (κ := κ)
      (wpE_waitDma2_eq (src := src) (dst := dst) 𝒱₀ (d : Thread nD τ) none Set.univ) (Set.mem_univ _) () (Q := Q) (O := O) (W := W) (R := r) (m := 0) (T := ∅)
      (by rw [Nat.zero_add, expect_one I d (.dma sem) r hd, hk])) $$ [HI Hlev Hc HO Hat]
  · isplitl [HI]; · iexact HI
    isplitl [Hc]; · iexact Hc
    isplitl [HO]; · iexact HO
    isplitl [Hlev]; · iapply hO; iexact Hlev
    iexact Hat
  iintro ⟨HO, Hat, Hr, Hp⟩
  iapply Hk
  isplitl [HO]; · iexists (insert (SemLoc.dma sem, ()) W); iexact HO
  isplitl [Hat]; · iexact Hat
  isplitl [Hr]; · iexact Hr
  iapply (BIBase.Entails.of_eq (rest_one I d (.dma sem) r hd)); iexact Hp

end Cert.AR

end
-- ==== Proof.Run.lean ====
/- What a device holds of chunk `k` at each stage, and that each step of the kernel takes the chunk to the next stage. -/
module

public import proofs.«01_k».proof.Proof.Ops

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (d : Dev nD) (k : Fin 16)

abbrev own {sp : Space} {s : Shape} {e : EltTy} (c : Dev nD) (M : Memref sig .tc sp s e) (X : s.Idx → Elt F e) : sProp 𝕄 :=
  ownsTc c M fullShare X
abbrev pos (g : GSem nD τ sig) (r : ℕ) : sProp 𝕄 := atPos ER g r ∅ 0
abbrev tok (g : GSem nD τ sig) (r : ℕ) : sProp 𝕄 := dutyTok ER g r false
abbrev rch (g : GSem nD τ sig) (r : ℕ) : sProp 𝕄 := reached ER g r
abbrev crd (g : GSem nD τ sig) (n : ℕ) : sProp 𝕄 := cred (tallyAt g () n)

/-! ## The stages of a chunk -/

/-- Of a chunk whose input copies are at most under way: everything but what those copies concern. -/
def early : sProp 𝕄 :=
  iprop(some' d (oh1 mO d k) ∗ some' d (oh2 mO d k) ∗ some' d (ch s2 k) ∗ some' d (ch s4 k)
    ∗ pos (xsC d k) 0 ∗ pos (xrC d k) 0 ∗ pos (ysC d k) 0 ∗ pos (yrC d k) 0
    ∗ tok (lpC d k) 1 ∗ tok (lrC d k) 1 ∗ tok (xsC d k) 0 ∗ tok (ysC d k) 0 ∗ tok (xrC (xn d) k) 0 ∗ tok (yrC (yn d) k) 0
    ∗ crd (xrC d k) NB ∗ crd (yrC d k) NB ∗ rch (xsC d k) 0 ∗ rch (ysC d k) 0)

/-- Stage 0: nothing begun. -/
def St0 : sProp 𝕄 :=
  iprop(own d (oh1 mP d k) (pA I d k) ∗ some' d (ch s0 k) ∗ own d (oh1 mR d k) (rA I d k) ∗ some' d (ch s1 k)
    ∗ pos (lpC d k) 0 ∗ pos (lrC d k) 0 ∗ tok (lpC d k) 0 ∗ tok (lrC d k) 0 ∗ rch (lpC d k) 0 ∗ rch (lrC d k) 0 ∗ early d k)
/-- Stage 1: the input copies are under way. -/
def St1 : sProp 𝕄 :=
  iprop(crd (lpC d k) NF ∗ crd (lrC d k) NF ∗ pos (lpC d k) 0 ∗ pos (lrC d k) 0 ∗ early d k)
/-- Stage 2: the neighbours have lent their receiving chunks. -/
def St2 : sProp 𝕄 := iprop(St1 (F := F) d k ∗ hx (xn d) k ∗ hy (yn d) k)
/-- Stage 3: the partial's chunk is being sent. -/
def St3 : sProp 𝕄 :=
  iprop(own d (oh1 mP d k) (pA I d k) ∗ own d (ch s0 k) (pA I d k) ∗ pos (lpC d k) 1 ∗ rch (lpC d k) 1 ∗ tok (lpC d k) 1
    ∗ crd (xsC d k) NB ∗ crd (lrC d k) NF ∗ pos (lrC d k) 0
    ∗ some' d (oh1 mO d k) ∗ some' d (oh2 mO d k) ∗ some' d (ch s4 k)
    ∗ pos (xsC d k) 0 ∗ pos (xrC d k) 0 ∗ pos (ysC d k) 0 ∗ pos (yrC d k) 0
    ∗ tok (lrC d k) 1 ∗ tok (ysC d k) 0 ∗ tok (yrC (yn d) k) 0
    ∗ crd (xrC d k) NB ∗ crd (yrC d k) NB ∗ rch (ysC d k) 0 ∗ hy (yn d) k)
/-- What is done with once the sum is taken. -/
def done1 : sProp 𝕄 :=
  iprop(own d (oh1 mP d k) (pA I d k) ∗ own d (oh1 mR d k) (rA I d k) ∗ own d (ch s2 k) (xsA I d k) ∗ own d (ch s3 k) (xsA I (xn d) k)
    ∗ pos (xsC d k) 1 ∗ pos (xrC d k) 1)
/-- Stage 4: the normalised chunk is being sent and copied out. -/
def St4 : sProp 𝕄 :=
  iprop(done1 I d k ∗ crd (lpC d k) NO ∗ pos (lpC d k) 1 ∗ own d (ch s1 k) (rA I d k) ∗ pos (lrC d k) 1 ∗ rch (lrC d k) 1 ∗ tok (lrC d k) 1
    ∗ crd (ysC d k) NB ∗ crd (yrC d k) NB ∗ pos (ysC d k) 0 ∗ pos (yrC d k) 0 ∗ some' d (oh2 mO d k))
/-- What is done with once the neighbour's chunk is taken. -/
def done2 : sProp 𝕄 :=
  iprop(own d (ch s4 k) (ysA I d k) ∗ own d (ch s5 k) (ysA I (yn d) k) ∗ pos (ysC d k) 1 ∗ pos (yrC d k) 1)
/-- Stage 5: both chunks of the result are being copied out. -/
def St5 : sProp 𝕄 :=
  iprop(done1 I d k ∗ done2 I d k ∗ crd (lpC d k) NO ∗ pos (lpC d k) 1 ∗ crd (lrC d k) NO ∗ pos (lrC d k) 1)
/-- Stage 6: finished. -/
def St6 : sProp 𝕄 :=
  iprop(done1 I d k ∗ done2 I d k ∗ pos (lpC d k) 2 ∗ pos (lrC d k) 2
    ∗ own d (ch s0 k) (o0 I d k) ∗ own d (oh1 mO d k) (o0 I d k) ∗ own d (ch s1 k) (o1 I d k) ∗ own d (oh2 mO d k) (o1 I d k))

def St (n : ℕ) : sProp 𝕄 :=
  match n with
  | 0 => St0 I d k
  | 1 => St1 d k
  | 2 => St2 d k
  | 3 => St3 I d k
  | 4 => St4 I d k
  | 5 => St5 I d k
  | _ => St6 I d k

/-- A device's debt, whatever its waits so far. -/
abbrev debt (O : CellTallies nD τ sig Unit) : sProp 𝕄 := iprop(∃ W, owes (d : Thread nD τ) O W)

variable (K : GSem nD τ sig → ℕ)

theorem inv_lp : invs I K ⊢ cellInv ER (Rd I) (K (lpC d k)) (lpC d k) := inv_sc I K d 0 k
theorem inv_lr : invs I K ⊢ cellInv ER (Rd I) (K (lrC d k)) (lrC d k) := inv_sc I K d 1 k
theorem inv_xs : invs I K ⊢ cellInv ER (Rd I) (K (xsC d k)) (xsC d k) := inv_sc I K d 2 k
theorem inv_xr : invs I K ⊢ cellInv ER (Rd I) (K (xrC d k)) (xrC d k) := inv_sc I K d 3 k
theorem inv_ys : invs I K ⊢ cellInv ER (Rd I) (K (ysC d k)) (ysC d k) := inv_sc I K d 4 k
theorem inv_yr : invs I K ⊢ cellInv ER (Rd I) (K (yrC d k)) (yrC d k) := inv_sc I K d 5 k

/-! ## The steps -/

variable {defs : Defs nD τ sig (Elt F) Λ₀}

abbrev WP (defs : Defs nD τ sig (Elt F) Λ₀) (d : Dev nD) {α : Type} (p : PR F α) (Q : α → sProp 𝕄) : sProp 𝕄 :=
  wp frame (wpE defs 𝒱₀ (d : Thread nD τ) none) Set.univ p Q

abbrev tA : PR F PUnit := stepA mP mR s0 s1 cc0_scratch6 cc0_scratch7 d k
abbrev tX : PR F PUnit :=
  stepX mP s0 s2 (Memref.isWhole_whole _) s3 (Memref.isWhole_whole _) cc0_scratch6 cc0_scratch8 cc0_scratch9 d k
abbrev tY (gb : FVec F S1x2048 .bf16) : PR F PUnit :=
  stepY mR mO s0 s1 s2 (Memref.isWhole_whole _) s3 (Memref.isWhole_whole _) s4 (Memref.isWhole_whole _) s5 (Memref.isWhole_whole _)
    cc0_scratch6 cc0_scratch7 cc0_scratch8 cc0_scratch9 cc0_scratch10 cc0_scratch11 gb d k
abbrev tD : PR F PUnit :=
  stepD mO s1 s4 (Memref.isWhole_whole _) s5 (Memref.isWhole_whole _) cc0_scratch7 cc0_scratch10 cc0_scratch11 d k
abbrev tF : PR F PUnit := stepF mO s0 s1 cc0_scratch6 cc0_scratch7 d k

theorem pay_lp0 : pay I (dec (.dma (lpS k))).1 d (dec (.dma (lpS k))).2 0 false = iprop(own d (oh1 mP d k) (pA I d k) ∗ own d (ch s0 k) (pA I d k)) := by
  rw [dec_lp]; rfl
theorem pay_lp1 : pay I (dec (.dma (lpS k))).1 d (dec (.dma (lpS k))).2 1 false = iprop(own d (ch s0 k) (o0 I d k) ∗ own d (oh1 mO d k) (o0 I d k)) := by
  rw [dec_lp]; rfl
theorem pay_lr0 : pay I (dec (.dma (lrS k))).1 d (dec (.dma (lrS k))).2 0 false = iprop(own d (oh1 mR d k) (rA I d k) ∗ own d (ch s1 k) (rA I d k)) := by
  rw [dec_lr]; rfl
theorem pay_lr1 : pay I (dec (.dma (lrS k))).1 d (dec (.dma (lrS k))).2 1 false = iprop(own d (ch s1 k) (o1 I d k) ∗ own d (oh2 mO d k) (o1 I d k)) := by
  rw [dec_lr]; rfl
theorem pay_xs : pay I (dec (.dma (xsS k))).1 d (dec (.dma (xsS k))).2 0 false = own d (ch s2 k) (xsA I d k) := by rw [dec_xs]; rfl
theorem pay_xr : pay I (dec (.dma (xrS k))).1 d (dec (.dma (xrS k))).2 0 false = own d (ch s3 k) (xsA I (xn d) k) := by rw [dec_xr]; rfl
theorem pay_ys : pay I (dec (.dma (ysS k))).1 d (dec (.dma (ysS k))).2 0 false = own d (ch s4 k) (ysA I d k) := by rw [dec_ys]; rfl
theorem pay_yr : pay I (dec (.dma (yrS k))).1 d (dec (.dma (yrS k))).2 0 false = own d (ch s5 k) (ysA I (yn d) k) := by rw [dec_yr]; rfl

theorem lvl_low (s : SemLoc sig) (h : (dec s).1 = 0 ∨ (dec s).1 = 1 ∨ (dec s).1 = 2 ∨ (dec s).1 = 4) : lvl (dec s) = 0 := by
  unfold lvl
  rw [if_neg (by omega), if_neg (by omega), if_neg (by omega)]
/-- A wait at a cell of level 0 is always allowed. -/
theorem mayWait_low (s : SemLoc sig) (h : (dec s).1 = 0 ∨ (dec s).1 = 1 ∨ (dec s).1 = 2 ∨ (dec s).1 = 4) (σ : Fin 16 → ℕ) :
    (levAts L lv : sProp 𝕄) ⊢ MayWait (d : Thread nD τ) s () (Ow d σ) :=
  mayWait_Ow d s σ (fun _ _ => by rw [lvl_low s h]; omega) (fun _ _ => by rw [lvl_low s h]; omega)

theorem run_A (Q : PUnit → sProp 𝕄) :
    iprop(invs I K ∗ St0 I d k ∗ (St1 (F := F) d k -∗ Q ⟨⟩)) ⊢ WP defs d (tA d k) Q := by
  simp only [stepA, Prog.lift, Prog.bind_op, Prog.bind_ret]
  unfold St0
  iintro ⟨#HI, ⟨Hp, H0, Hr, H1, HpL, HpR, HtL, HtR, HrL, HrR, He⟩, Hk⟩
  iapply (wp_cp I d (src := oh1 mP d k) (dst := ch s0 k) (sem := .dma (lpS k)) (X := pA I d k) (κ := K (lpC d k)) 0 NF
    (by rw [dec_lp]; rfl) rfl (by rw [dec_lp]; rfl) (by rw [pay_lp0]; exact BI.sep_comm)) $$ [Hp H0 HtL HrL]
  · isplitr; · iapply (inv_lp I d k K); iexact HI
    isplitl [Hp]; · iexact Hp
    isplitl [H0]; · iexact H0
    isplitl [HtL]; · iexact HtL
    iexact HrL
  iintro HcL
  iapply (wp_cp I d (src := oh1 mR d k) (dst := ch s1 k) (sem := .dma (lrS k)) (X := rA I d k) (κ := K (lrC d k)) 0 NF
    (by rw [dec_lr]; rfl) rfl (by rw [dec_lr]; rfl) (by rw [pay_lr0]; exact BI.sep_comm)) $$ [Hr H1 HtR HrR]
  · isplitr; · iapply (inv_lr I d k K); iexact HI
    isplitl [Hr]; · iexact Hr
    isplitl [H1]; · iexact H1
    isplitl [HtR]; · iexact HtR
    iexact HrR
  iintro HcR
  rw [wp_ret]
  imodintro
  iapply Hk
  unfold St1
  isplitl [HcL]; · iexact HcL
  isplitl [HcR]; · iexact HcR
  isplitl [HpL]; · iexact HpL
  isplitl [HpR]; · iexact HpR
  iexact He

theorem run_X (σ : Fin 16 → ℕ) (h : σ k = 2) (Q : PUnit → sProp 𝕄) :
    iprop(invs I K ∗ levAts L lv ∗ St2 (F := F) d k ∗ debt d (Ow d σ) ∗ ((St3 I d k ∗ debt d (Ow d (Function.update σ k 3))) -∗ Q ⟨⟩))
      ⊢ WP defs d (tX d k) Q := by
  simp only [stepX, Prog.lift, Prog.bind_op, Prog.bind_ret]
  unfold St2 St1 early hx
  iintro ⟨#HI, #Hlev, ⟨⟨HcL, HcR, HpL, HpR, Ho1, Ho2, H2, H4, Hxs, Hxr, Hys, Hyr, HtL, HtR, HtX, HtY, HtXr, HtYr, HcXr, HcYr, #HrX, HrY⟩, ⟨H3, #HrXn⟩, Hhy⟩, HO, Hk⟩
  iapply (wp_wt I d (src := oh1 mP d k) (dst := ch s0 k) (sem := lpS k) (κ := K (lpC d k)) 0 NF
    (by rw [dec_lp]; rfl) rfl (by rw [dec_lp]; rfl) (mayWait_low d (.dma (lpS k)) (by rw [dec_lp]; exact .inl rfl) σ)) $$ [HcL HO HpL]
  · isplitr; · iapply (inv_lp I d k K); iexact HI
    isplitr; · iexact Hlev
    isplitl [HcL]; · iexact HcL
    isplitl [HO]; · iexact HO
    iexact HpL
  iintro ⟨HO, HpL, HrL, Hpay⟩
  ihave Hpay := (BIBase.Entails.of_eq (pay_lp0 I d k)) $$ Hpay
  icases Hpay with ⟨Hp, H0⟩
  iapply (wp_ld d (M := s0) (r := rc k) (hr := fun _ => rfl) (X := pA I d k)) $$ H0
  iintro H0
  unfold some'
  icases H2 with ⟨%X2, H2⟩
  iapply (wp_ld d (M := s2) (r := rc k) (hr := fun _ => rfl) (X := X2)) $$ H2
  iintro H2
  iapply (wp_st d (M := s2) (r := rc k) (hr := fun _ => rfl) (w := xsA I d k)) $$ [H2]
  · unfold some'; iexists X2; iexact H2
  iintro H2
  iapply (wp_sd I d (src := ch s2 k) (dst := ch s3 k) (sS := .dma (xsS k)) (sem := .dma (xrS k)) (xn d) (X := xsA I d k)
    (κ₁ := K (xsC d k)) (κ₂ := K (xrC (xn d) k)) NB (by rw [dec_xs]; rfl) (by rw [dec_xr]; rfl) rfl (by rw [dec_xs]; rfl) (by rw [dec_xr]; rfl)
    (Ow d (Function.update σ k 3)) (Ow_X h) (by rw [pay_xs]) (by rw [pay_xr, xn_xn])) $$ [H2 H3 HO HtX HtXr]
  · isplitr; · iapply (inv_xs I d k K); iexact HI
    isplitr; · iapply (inv_xr I (xn d) k K); iexact HI
    isplitl [H2]; · iexact H2
    isplitl [H3]; · unfold some'; iexact H3
    isplitl [HO]; · iexact HO
    isplitl [HtX]; · iexact HtX
    isplitr; · iexact HrX
    isplitl [HtXr]; · iexact HtXr
    iexact HrXn
  iintro ⟨HcX, HO⟩
  rw [wp_ret]
  imodintro
  iapply Hk
  unfold St3 some'
  isplitr [HO]
  rotate_left
  · iexact HO
  iframe

theorem run_Y (σ : Fin 16 → ℕ) (h : σ k = 3) (hx : ∀ j, 3 ≤ σ j) (Q : PUnit → sProp 𝕄) :
    iprop(invs I K ∗ levAts L lv ∗ St3 I d k ∗ debt d (Ow d σ) ∗ ((St4 I d k ∗ debt d (Ow d (Function.update σ k 4))) -∗ Q ⟨⟩))
      ⊢ WP defs d (tY d k (I.g d)) Q := by
  simp only [stepY, Prog.lift, Prog.bind_op, Prog.bind_ret]
  unfold St3 hy
  iintro ⟨#HI, #Hlev, ⟨Hp, H0, HpL, #HrL, HtL, HcX, HcR, HpR, Ho1, Ho2, H4, Hxs, Hxr, Hys, Hyr, HtR, HtY, HtYr, HcXr, HcYr, #HrY, H5, #HrYn⟩, HO, Hk⟩
  iapply (wp_wt I d (src := ch s3 k) (dst := ch s2 k) (sem := xsS k) (κ := K (xsC d k)) 0 NB
    (by rw [dec_xs]; rfl) rfl (by rw [dec_xs]; rfl) (mayWait_low d (.dma (xsS k)) (by rw [dec_xs]; exact .inr (.inr (.inl rfl))) σ)) $$ [HcX HO Hxs]
  · isplitr; · iapply (inv_xs I d k K); iexact HI
    isplitr; · iexact Hlev
    isplitl [HcX]; · iexact HcX
    isplitl [HO]; · iexact HO
    iexact Hxs
  iintro ⟨HO, Hxs, -, H2⟩
  ihave H2 := (BIBase.Entails.of_eq (pay_xs I d k)) $$ H2
  iapply (wp_wt I d (src := ch s2 k) (dst := ch s3 k) (sem := xrS k) (κ := K (xrC d k)) 0 NB
    (by rw [dec_xr]; rfl) rfl (by rw [dec_xr]; rfl)
    (mayWait_Ow d (.dma (xrS k)) σ (fun j hj => absurd (hx j) (by omega)) (fun j _ => by rw [dec_xr]; exact Nat.lt_of_lt_of_le (Nat.lt_succ_self 2) (Nat.le_add_right 3 _))))
    $$ [HcXr HO Hxr]
  · isplitr; · iapply (inv_xr I d k K); iexact HI
    isplitr; · iexact Hlev
    isplitl [HcXr]; · iexact HcXr
    isplitl [HO]; · iexact HO
    iexact Hxr
  iintro ⟨HO, Hxr, -, H3⟩
  ihave H3 := (BIBase.Entails.of_eq (pay_xr I d k)) $$ H3
  iapply (wp_wt I d (src := oh1 mR d k) (dst := ch s1 k) (sem := lrS k) (κ := K (lrC d k)) 0 NF
    (by rw [dec_lr]; rfl) rfl (by rw [dec_lr]; rfl) (mayWait_low d (.dma (lrS k)) (by rw [dec_lr]; exact .inr (.inl rfl)) σ)) $$ [HcR HO HpR]
  · isplitr; · iapply (inv_lr I d k K); iexact HI
    isplitr; · iexact Hlev
    isplitl [HcR]; · iexact HcR
    isplitl [HO]; · iexact HO
    iexact HpR
  iintro ⟨HO, HpR, HrR, Hpay⟩
  ihave Hpay := (BIBase.Entails.of_eq (pay_lr0 I d k)) $$ Hpay
  icases Hpay with ⟨Hr, H1⟩
  iapply (wp_ld d (M := s2) (r := rc k) (hr := fun _ => rfl) (X := xsA I d k)) $$ H2
  iintro H2
  iapply (wp_ld d (M := s3) (r := rc k) (hr := fun _ => rfl) (X := xsA I (xn d) k)) $$ H3
  iintro H3
  iapply (wp_ld d (M := s1) (r := rc k) (hr := fun _ => rfl) (X := rA I d k)) $$ H1
  iintro H1
  unfold some'
  icases H4 with ⟨%X4, H4⟩
  iapply (wp_ld d (M := s4) (r := rc k) (hr := fun _ => rfl) (X := X4)) $$ H4
  iintro H4
  iapply (wp_st d (M := s4) (r := rc k) (hr := fun _ => rfl) (w := ysA I d k)) $$ [H4]
  · unfold some'; iexists X4; iexact H4
  iintro H4
  iapply (wp_sd I d (src := ch s4 k) (dst := ch s5 k) (sS := .dma (ysS k)) (sem := .dma (yrS k)) (yn d) (X := ysA I d k)
    (κ₁ := K (ysC d k)) (κ₂ := K (yrC (yn d) k)) NB (by rw [dec_ys]; rfl) (by rw [dec_yr]; rfl) rfl (by rw [dec_ys]; rfl) (by rw [dec_yr]; rfl)
    (Ow d (Function.update σ k 4)) (Ow_Y h) (by rw [pay_ys]) (by rw [pay_yr, yn_yn])) $$ [H4 H5 HO HtY HtYr]
  · isplitr; · iapply (inv_ys I d k K); iexact HI
    isplitr; · iapply (inv_yr I (yn d) k K); iexact HI
    isplitl [H4]; · iexact H4
    isplitl [H5]; · unfold some'; iexact H5
    isplitl [HO]; · iexact HO
    isplitl [HtY]; · iexact HtY
    isplitr; · iexact HrY
    isplitl [HtYr]; · iexact HtYr
    iexact HrYn
  iintro ⟨HcY, HO⟩
  iapply (wp_ld d (M := s0) (r := rc k) (hr := fun _ => rfl) (X := pA I d k)) $$ H0
  iintro H0
  iapply (wp_st d (M := s0) (r := rc k) (hr := fun _ => rfl) (w := o0 I d k)) $$ [H0]
  · unfold some'; iexists (pA I d k); iexact H0
  iintro H0
  iapply (wp_cp I d (src := ch s0 k) (dst := oh1 mO d k) (sem := .dma (lpS k)) (X := o0 I d k) (κ := K (lpC d k)) 1 NO
    (by rw [dec_lp]; rfl) rfl (by rw [dec_lp]; rfl) (by rw [pay_lp1]; exact BI.sep_comm)) $$ [H0 Ho1 HtL]
  · isplitr; · iapply (inv_lp I d k K); iexact HI
    isplitl [H0]; · iexact H0
    isplitl [Ho1]; · unfold some'; iexact Ho1
    isplitl [HtL]; · iexact HtL
    iexact HrL
  iintro HcL
  rw [wp_ret]
  imodintro
  iapply Hk
  unfold St4 done1 some'
  isplitr [HO]
  rotate_left
  · iexact HO
  iframe

theorem run_D (σ : Fin 16 → ℕ) (h : σ k = 4) (hx : ∀ j, 3 ≤ σ j) (hy : ∀ j ≤ k, 4 ≤ σ j) (Q : PUnit → sProp 𝕄) :
    iprop(invs I K ∗ levAts L lv ∗ St4 I d k ∗ debt d (Ow d σ) ∗ ((St5 I d k ∗ debt d (Ow d (Function.update σ k 5))) -∗ Q ⟨⟩))
      ⊢ WP defs d (tD d k) Q := by
  simp only [stepD, Prog.lift, Prog.bind_op, Prog.bind_ret]
  unfold St4
  iintro ⟨#HI, #Hlev, ⟨Hdone, HcL, HpL, H1, HpR, #HrR, HtR, HcY, HcYr, Hys, Hyr, Ho2⟩, HO, Hk⟩
  iapply (wp_wt I d (src := ch s5 k) (dst := ch s4 k) (sem := ysS k) (κ := K (ysC d k)) 0 NB
    (by rw [dec_ys]; rfl) rfl (by rw [dec_ys]; rfl) (mayWait_low d (.dma (ysS k)) (by rw [dec_ys]; exact .inr (.inr (.inr rfl))) σ)) $$ [HcY HO Hys]
  · isplitr; · iapply (inv_ys I d k K); iexact HI
    isplitr; · iexact Hlev
    isplitl [HcY]; · iexact HcY
    isplitl [HO]; · iexact HO
    iexact Hys
  iintro ⟨HO, Hys, -, H4⟩
  ihave H4 := (BIBase.Entails.of_eq (pay_ys I d k)) $$ H4
  iapply (wp_wt I d (src := ch s4 k) (dst := ch s5 k) (sem := yrS k) (κ := K (yrC d k)) 0 NB
    (by rw [dec_yr]; rfl) rfl (by rw [dec_yr]; rfl)
    (mayWait_Ow d (.dma (yrS k)) σ (fun j hj => absurd (hx j) (by omega)) (fun j hj => by
      rw [dec_yr]
      have hkj : k < j := Nat.lt_of_not_le fun hle => by have := hy j hle; omega
      exact Nat.add_lt_add_left hkj 3))) $$ [HcYr HO Hyr]
  · isplitr; · iapply (inv_yr I d k K); iexact HI
    isplitr; · iexact Hlev
    isplitl [HcYr]; · iexact HcYr
    isplitl [HO]; · iexact HO
    iexact Hyr
  iintro ⟨HO, Hyr, -, H5⟩
  ihave H5 := (BIBase.Entails.of_eq (pay_yr I d k)) $$ H5
  iapply (wp_ld d (M := s5) (r := rc k) (hr := fun _ => rfl) (X := ysA I (yn d) k)) $$ H5
  iintro H5
  iapply (wp_ld d (M := s1) (r := rc k) (hr := fun _ => rfl) (X := rA I d k)) $$ H1
  iintro H1
  iapply (wp_st d (M := s1) (r := rc k) (hr := fun _ => rfl) (w := o1 I d k)) $$ [H1]
  · unfold some'; iexists (rA I d k); iexact H1
  iintro H1
  iapply (wp_cp I d (src := ch s1 k) (dst := oh2 mO d k) (sem := .dma (lrS k)) (X := o1 I d k) (κ := K (lrC d k)) 1 NO
    (by rw [dec_lr]; rfl) rfl (by rw [dec_lr]; rfl) (by rw [pay_lr1]; exact BI.sep_comm)) $$ [H1 Ho2 HtR]
  · isplitr; · iapply (inv_lr I d k K); iexact HI
    isplitl [H1]; · iexact H1
    isplitl [Ho2]; · iexact Ho2
    isplitl [HtR]; · iexact HtR
    iexact HrR
  iintro HcR
  rw [wp_ret]
  imodintro
  iapply Hk
  rw [← Ow_keep (d := d) (σ := σ) (k := k) (v := 5) (by omega) (by omega)]
  unfold St5 done2
  isplitr [HO]
  rotate_left
  · iexact HO
  iframe

theorem run_F (σ : Fin 16 → ℕ) (h : σ k = 5) (Q : PUnit → sProp 𝕄) :
    iprop(invs I K ∗ levAts L lv ∗ St5 I d k ∗ debt d (Ow d σ) ∗ ((St6 I d k ∗ debt d (Ow d (Function.update σ k 6))) -∗ Q ⟨⟩))
      ⊢ WP defs d (tF d k) Q := by
  simp only [stepF, Prog.lift, Prog.bind_op, Prog.bind_ret]
  unfold St5
  iintro ⟨#HI, #Hlev, ⟨Hdone, Hdone', HcL, HpL, HcR, HpR⟩, HO, Hk⟩
  iapply (wp_wt I d (src := ch s0 k) (dst := oh1 mO d k) (sem := lpS k) (κ := K (lpC d k)) 1 NO
    (by rw [dec_lp]; rfl) rfl (by rw [dec_lp]; rfl) (mayWait_low d (.dma (lpS k)) (by rw [dec_lp]; exact .inl rfl) σ)) $$ [HcL HO HpL]
  · isplitr; · iapply (inv_lp I d k K); iexact HI
    isplitr; · iexact Hlev
    isplitl [HcL]; · iexact HcL
    isplitl [HO]; · iexact HO
    iexact HpL
  iintro ⟨HO, HpL, -, Hpay⟩
  ihave Hpay := (BIBase.Entails.of_eq (pay_lp1 I d k)) $$ Hpay
  icases Hpay with ⟨H0, Ho1⟩
  iapply (wp_wt I d (src := ch s1 k) (dst := oh2 mO d k) (sem := lrS k) (κ := K (lrC d k)) 1 NO
    (by rw [dec_lr]; rfl) rfl (by rw [dec_lr]; rfl) (mayWait_low d (.dma (lrS k)) (by rw [dec_lr]; exact .inr (.inl rfl)) σ)) $$ [HcR HO HpR]
  · isplitr; · iapply (inv_lr I d k K); iexact HI
    isplitr; · iexact Hlev
    isplitl [HcR]; · iexact HcR
    isplitl [HO]; · iexact HO
    iexact HpR
  iintro ⟨HO, HpR, -, Hpay⟩
  ihave Hpay := (BIBase.Entails.of_eq (pay_lr1 I d k)) $$ Hpay
  icases Hpay with ⟨H1, Ho2⟩
  rw [wp_ret]
  imodintro
  iapply Hk
  rw [← Ow_keep (d := d) (σ := σ) (k := k) (v := 6) (by omega) (by omega)]
  unfold St6
  isplitr [HO]
  rotate_left
  · iexact HO
  iframe

end Cert.AR

end
-- ==== Proof.Body.lean ====
/- The whole kernel function on one device: the lists of steps, the barrier between them, and what the function leaves. -/
module

public import proofs.«01_k».proof.Proof.Run

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (d : Dev nD) (K : GSem nD τ sig → ℕ)

variable {defs : Defs nD τ sig (Elt F) Λ₀}

/-! ## A list of steps -/

/-- The stages after a list of steps, and that each step of the list may be taken when its turn comes. -/
def okL {β : Type} (nx : (Fin 16 → ℕ) → β → Fin 16 → ℕ) (ok : β → (Fin 16 → ℕ) → Prop) : List β → (Fin 16 → ℕ) → Prop
  | [], _ => True
  | b :: l, σ => ok b σ ∧ okL nx ok l (nx σ b)

instance okL_dec {β : Type} (nx : (Fin 16 → ℕ) → β → Fin 16 → ℕ) (ok : β → (Fin 16 → ℕ) → Prop) [∀ b σ, Decidable (ok b σ)] :
    ∀ l σ, Decidable (okL nx ok l σ)
  | [], _ => isTrue trivial
  | b :: l, σ => @instDecidableAnd _ _ inferInstance (okL_dec nx ok l (nx σ b))

theorem run_list {β : Type} (f : β → PR F PUnit) (R : sProp 𝕄) [BI.Persistent R] (P : (Fin 16 → ℕ) → sProp 𝕄)
    (nx : (Fin 16 → ℕ) → β → Fin 16 → ℕ) (ok : β → (Fin 16 → ℕ) → Prop)
    (hstep : ∀ b σ (Q : PUnit → sProp 𝕄), ok b σ → iprop(R ∗ P σ ∗ (P (nx σ b) -∗ Q ⟨⟩)) ⊢ WP defs d (f b) Q) :
    ∀ (l : List β) (σ : Fin 16 → ℕ) (Q : PUnit → sProp 𝕄), okL nx ok l σ →
      iprop(R ∗ P σ ∗ (P (l.foldl nx σ) -∗ Q ⟨⟩)) ⊢ WP defs d (runL f l) Q
  | [], σ, Q, _ => by
    show _ ⊢ wp frame (wpE defs 𝒱₀ (d : Thread nD τ) none) Set.univ (Prog.ret ⟨⟩) Q
    rw [wp_ret, List.foldl_nil]
    iintro ⟨-, HP, Hk⟩
    imodintro
    iapply Hk
    iexact HP
  | b :: l, σ, Q, h => by
    show _ ⊢ wp frame (wpE defs 𝒱₀ (d : Thread nD τ) none) Set.univ (f b >>= fun _ => runL f l) Q
    rw [wp_bind, List.foldl_cons]
    iintro ⟨#HR, HP, Hk⟩
    iapply (hstep b σ _ h.1)
    isplitr; · iexact HR
    isplitl [HP]; · iexact HP
    iintro HP
    iapply (run_list f R P nx ok hstep l (nx σ b) Q h.2)
    isplitr; · iexact HR
    isplitl [HP]; · iexact HP
    iexact Hk

/-- All the chunks, at their stages. -/
def allSt (σ : Fin 16 → ℕ) : sProp 𝕄 := bigSep Finset.univ fun k => St I d k (σ k)

/-- One chunk, and the others when it has moved on. -/
theorem allSt_at (σ : Fin 16 → ℕ) (k : Fin 16) (n v : ℕ) (h : σ k = n) :
    allSt I d σ ⊢ iprop(St I d k n ∗ (St I d k v -∗ allSt I d (Function.update σ k v))) := by
  unfold allSt
  refine BIBase.Entails.trans (bigSep_univ_update (Φ := fun j => St I d j (σ j)) (Ψ := fun j => St I d j (Function.update σ k v j)) k
    fun j hj => by rw [Function.update_of_ne hj]) ?_
  simp only [Function.update_self, h]
  exact BIBase.Entails.rfl

/-- The invariants and the levels, which no step changes. -/
abbrev know : sProp 𝕄 := iprop(invs I K ∗ levAts L lv)

theorem step_A (k : Fin 16) (σ : Fin 16 → ℕ) (Q : PUnit → sProp 𝕄) (h : σ k = 0) :
    iprop(know I K ∗ allSt I d σ ∗ (allSt I d (Function.update σ k 1) -∗ Q ⟨⟩)) ⊢ WP defs d (tA d k) Q := by
  have hA : iprop(invs I K ∗ St I d k 0 ∗ (St I d k 1 -∗ Q ⟨⟩)) ⊢ WP defs d (tA d k) Q := run_A I d k K Q
  iintro ⟨⟨#HI, -⟩, HS, Hk⟩
  ihave HS := (allSt_at I d σ k 0 1 h) $$ HS
  icases HS with ⟨H, HS⟩
  iapply hA
  isplitr; · iexact HI
  isplitl [H]; · iexact H
  iintro H
  iapply Hk
  iapply HS
  iexact H

/-- A step of one chunk from stage `n` to stage `v` is a step of all. -/
theorem step_of (p : PR F PUnit) (k : Fin 16) (σ : Fin 16 → ℕ) (Q : PUnit → sProp 𝕄) (n v : ℕ) (h : σ k = n)
    (hp : ∀ Q' : PUnit → sProp 𝕄, iprop(invs I K ∗ levAts L lv ∗ St I d k n ∗ debt d (Ow d σ)
        ∗ ((St I d k v ∗ debt d (Ow d (Function.update σ k v))) -∗ Q' ⟨⟩)) ⊢ WP defs d p Q') :
    iprop(know I K ∗ (allSt I d σ ∗ debt d (Ow d σ)) ∗ ((allSt I d (Function.update σ k v) ∗ debt d (Ow d (Function.update σ k v))) -∗ Q ⟨⟩))
      ⊢ WP defs d p Q := by
  iintro ⟨⟨#HI, #Hlev⟩, ⟨HS, HO⟩, Hk⟩
  ihave HS := (allSt_at I d σ k n v h) $$ HS
  icases HS with ⟨H, HS⟩
  iapply (hp Q)
  isplitr; · iexact HI
  isplitr; · iexact Hlev
  isplitl [H]; · iexact H
  isplitl [HO]; · iexact HO
  iintro ⟨H, HO⟩
  iapply Hk
  isplitr [HO]
  · iapply HS; iexact H
  · iexact HO

/-- The stage a phase takes a chunk from and to, and what it needs of the other chunks. -/
def src : Ph → ℕ | .A => 0 | .X => 2 | .Y => 3 | .D => 4 | .Z => 5
def nxt (σ : Fin 16 → ℕ) (a : Ph × Fin 16) : Fin 16 → ℕ := Function.update σ a.2 (src a.1 + 1)
def may : Ph × Fin 16 → (Fin 16 → ℕ) → Prop
  | (.A, _), _ => False
  | (.X, k), σ => σ k = 2
  | (.Y, k), σ => σ k = 3 ∧ ∀ j, 3 ≤ σ j
  | (.D, k), σ => σ k = 4 ∧ (∀ j, 3 ≤ σ j) ∧ ∀ j ≤ k, 4 ≤ σ j
  | (.Z, k), σ => σ k = 5
instance may_dec : ∀ a σ, Decidable (may a σ)
  | (.A, _), _ => inferInstanceAs (Decidable False)
  | (.X, k), σ => inferInstanceAs (Decidable (σ k = 2))
  | (.Y, k), σ => inferInstanceAs (Decidable (σ k = 3 ∧ ∀ j, 3 ≤ σ j))
  | (.D, k), σ => inferInstanceAs (Decidable (σ k = 4 ∧ (∀ j, 3 ≤ σ j) ∧ ∀ j ≤ k, 4 ≤ σ j))
  | (.Z, k), σ => inferInstanceAs (Decidable (σ k = 5))

abbrev tStep (gb : FVec F S1x2048 .bf16) : Ph × Fin 16 → PR F PUnit :=
  step mP mR mO s0 s1 s2 (Memref.isWhole_whole _) s3 (Memref.isWhole_whole _) s4 (Memref.isWhole_whole _) s5 (Memref.isWhole_whole _)
    cc0_scratch6 cc0_scratch7 cc0_scratch8 cc0_scratch9 cc0_scratch10 cc0_scratch11 gb d

theorem step_any (a : Ph × Fin 16) (σ : Fin 16 → ℕ) (Q : PUnit → sProp 𝕄) (h : may a σ) :
    iprop(know I K ∗ (allSt I d σ ∗ debt d (Ow d σ)) ∗ ((allSt I d (nxt σ a) ∗ debt d (Ow d (nxt σ a))) -∗ Q ⟨⟩))
      ⊢ WP defs d (tStep d (I.g d) a) Q := by
  match a, h with
  | (.X, k), h => exact step_of I d K (tX d k) k σ Q 2 3 h fun Q' => run_X I d k K σ h Q'
  | (.Y, k), h => exact step_of I d K (tY d k (I.g d)) k σ Q 3 4 h.1 fun Q' => run_Y I d k K σ h.1 h.2 Q'
  | (.D, k), h => exact step_of I d K (tD d k) k σ Q 4 5 h.1 fun Q' => run_D I d k K σ h.1 h.2.1 h.2.2 Q'
  | (.Z, k), h => exact step_of I d K (tF d k) k σ Q 5 6 h fun Q' => run_F I d k K σ h Q'

/-! ## The barrier -/

/-- What a device holds of the barrier's cells before it. -/
def barPre : sProp 𝕄 :=
  iprop(pos (barC d) 0 ∗ crd (barC d) 2 ∗ dutyTok ER (barC (xn d)) 0 false ∗ dutyTok ER (barC (yn d)) 0 true
    ∗ rch (barC (xn d)) 0 ∗ rch (barC (yn d)) 0)

theorem mayWait_bar : (levAts L lv : sProp 𝕄) ⊢ MayWait (d : Thread nD τ) (.reg barS) () (Ow d fun _ => 0) :=
  mayWait_Ow d (.reg barS) (fun _ => 0) (fun _ _ => by rw [dec_bar]; decide) (fun j _ => by rw [dec_bar]; show 1 < 3 + j.val; omega)

theorem bar_pay_x : bigSep Finset.univ (hx (F := F) d) ⊢ (Rd I).payload (barC (xn d)) 0 false := by
  rw [payload_at, dec_bar]
  show _ ⊢ bigSep Finset.univ (hx (F := F) (xn (xn d)))
  rw [xn_xn]
theorem bar_pay_y : bigSep Finset.univ (hy (F := F) d) ⊢ (Rd I).payload (barC (yn d)) 0 true := by
  rw [payload_at, dec_bar]
  show _ ⊢ bigSep Finset.univ (hy (F := F) (yn (yn d)))
  rw [yn_yn]

theorem run_B (Q : PUnit → sProp 𝕄) :
    iprop(know I K ∗ (bigSep Finset.univ (hx (F := F) d) ∗ bigSep Finset.univ (hy (F := F) d) ∗ barPre d ∗ debt d (Oall d))
        ∗ ((bigSep Finset.univ (hx (F := F) (xn d)) ∗ bigSep Finset.univ (hy (F := F) (yn d)) ∗ pos (barC d) 1 ∗ debt d (Ow d fun _ => 0)) -∗ Q ⟨⟩))
      ⊢ WP defs d (stepB d) Q := by
  simp only [stepB, semSignalWord, semWaitWord, Prog.bind_op, Prog.bind_ret]
  unfold barPre
  iintro ⟨⟨#HI, #Hlev⟩, ⟨Hx, Hy, ⟨HpB, HcB, HtX, HtY, HrX, HrY⟩, ⟨%W, HO⟩⟩, Hk⟩
  iapply (Rounds.wp_signal 𝒱₀ ER (Rd I) (d : Thread nD τ) none (dst := (xn d : Thread nD τ)) (sem := barS) (r := 0) (d := false) (κ := K (barC (xn d)))
      (by rw [duties_bar]; exact Finset.mem_univ _) (k' := 1) rfl () (O₀ := Oall d) (Ow d (fun _ => 0) + tallyAt (barC (yn d)) () 1) rfl) $$ [HO HtX Hx HrX]
  · isplitr; · iapply (inv_bar I K (xn d)); iexact HI
    isplitl [HO]; · iexact HO
    isplitl [HtX]; · iexact HtX
    isplitl [Hx]
    · iapply (bar_pay_x I d); iexact Hx
    iexact HrX
  iintro HO
  iapply (Rounds.wp_signal 𝒱₀ ER (Rd I) (d : Thread nD τ) none (dst := (yn d : Thread nD τ)) (sem := barS) (r := 0) (d := true) (κ := K (barC (yn d)))
      (by rw [duties_bar]; exact Finset.mem_univ _) (k' := 1) rfl () (Ow d (fun _ => 0)) rfl) $$ [HO HtY Hy HrY]
  · isplitr; · iapply (inv_bar I K (yn d)); iexact HI
    isplitl [HO]; · iexact HO
    isplitl [HtY]; · iexact HtY
    isplitl [Hy]
    · iapply (bar_pay_y I d); iexact Hy
    iexact HrY
  iintro HO
  iapply (Rounds.wp_wait_rest_token 𝒱₀ ER (Rd I) (d : Thread nD τ) none (κ := K (barC d)) (k' := 2)
      (wpE_semWait_eq 𝒱₀ (d : Thread nD τ) none Set.univ) (Set.mem_univ _) () (O := Ow d fun _ => 0) (W := W) (R := 0) (m := 0) (T := ∅)
      ((Nat.zero_add _).trans (expect_bar I d).symm)) $$ [HcB HO HpB]
  · isplitr; · iapply (inv_bar I K d); iexact HI
    isplitl [HcB]; · iexact HcB
    isplitl [HO]; · iexact HO
    isplitr; · iapply (mayWait_bar d); iexact Hlev
    iexact HpB
  iintro ⟨HO, HpB, -, Hpay⟩
  ihave Hp := (BIBase.Entails.of_eq (rest_bar I d)) $$ Hpay
  icases Hp with ⟨Hx, Hy⟩
  rw [wp_ret]
  imodintro
  iapply Hk
  isplitl [Hx]; · iexact Hx
  isplitl [Hy]; · iexact Hy
  isplitl [HpB]; · iexact HpB
  iexists _; iexact HO

/-- The neighbours' receiving chunks go to the chunks they belong to. -/
theorem lent : iprop(allSt I d (fun _ => 1) ∗ bigSep Finset.univ (hx (F := F) (xn d)) ∗ bigSep Finset.univ (hy (F := F) (yn d))) ⊢ allSt I d (fun _ => 2) := by
  show iprop(bigSep Finset.univ (St1 (F := F) d) ∗ bigSep Finset.univ (hx (F := F) (xn d)) ∗ bigSep Finset.univ (hy (F := F) (yn d)))
    ⊢ bigSep Finset.univ fun k => iprop(St1 (F := F) d k ∗ hx (xn d) k ∗ hy (yn d) k)
  rw [bigSep_sep', bigSep_sep']

/-! ## The scale -/

abbrev mG : Memref sig .tc .vmem S1x2048 .f32 := Memref.whole cc0_stg0_0
abbrev rG : Rect S1x2048 := Rect.unit (s := S1x2048) ![0, 0] S1x2048.size inb_S1x2048_S1x2048_0_0
/-- The rounded scale, from what the staging buffer holds. -/
def gOf (G : FVec F S1x2048 .f32) : FVec F S1x2048 .bf16 := k0_pay19 (View.read (Elt F) (mG.access rG) G)

theorem run_G (G : FVec F S1x2048 .f32) (Q : FVec F S1x2048 .bf16 → sProp 𝕄) :
    iprop(((d : Thread nD τ).loc cc0_stg0_0 ↦{fullShare} G) ∗ (((d : Thread nD τ).loc cc0_stg0_0 ↦{fullShare} G) -∗ Q (gOf G)))
      ⊢ WP defs d (stepG mG) Q := by
  simp only [stepG, Prog.bind_lift, gOf]
  iintro ⟨H, Hk⟩
  iapply (wp_load_rect 𝒱₀ (d : Thread nD τ) none Set.univ (m := mG) (r := rG) (S := Finset.univ) (q := fullShare) (f := G) (Finset.subset_univ _)) $$ H
  iintro H
  rw [wp_pure]
  imodintro
  iapply Hk
  iexact H

/-! ## The kernel function -/

abbrev tBody : PR F PUnit :=
  body mP mR mG mO s0 s1 s2 (Memref.isWhole_whole _) s3 (Memref.isWhole_whole _) s4 (Memref.isWhole_whole _) s5 (Memref.isWhole_whole _)
    cc0_scratch6 cc0_scratch7 cc0_scratch8 cc0_scratch9 cc0_scratch10 cc0_scratch11

theorem okA : okL (fun σ k => Function.update σ k 1) (fun k σ => σ k = 0) ks (fun _ => 0) := by decide +kernel
theorem endA : ks.foldl (fun σ k => Function.update σ k 1) (fun _ => 0) = fun _ => 1 := by decide +kernel
theorem okX : okL (fun σ k => Function.update σ k 3) (fun k σ => σ k = 2) ks (fun _ => 2) := by decide +kernel
theorem endX : ks.foldl (fun σ k => Function.update σ k 3) (fun _ => 2) = fun _ => 3 := by decide +kernel
theorem okY : okL nxt may listY (fun _ => 3) := by decide +kernel
theorem endY : listY.foldl nxt (fun _ => 3) = fun _ => 6 := by decide +kernel

/-- What the function starts from, and what it leaves. -/
def bPre (G : FVec F S1x2048 .f32) : sProp 𝕄 :=
  iprop(allSt I d (fun _ => 0) ∗ bigSep Finset.univ (hx (F := F) d) ∗ bigSep Finset.univ (hy (F := F) d) ∗ barPre d
    ∗ ((d : Thread nD τ).loc cc0_stg0_0 ↦{fullShare} G) ∗ debt d (Oall d))
def bPost (G : FVec F S1x2048 .f32) : sProp 𝕄 :=
  iprop(allSt I d (fun _ => 6) ∗ pos (barC d) 1 ∗ ((d : Thread nD τ).loc cc0_stg0_0 ↦{fullShare} G) ∗ debt d 0)

theorem run_body (G : FVec F S1x2048 .f32) (hG : I.g d = gOf G) (Q : PUnit → sProp 𝕄) :
    iprop(know I K ∗ bPre I d G ∗ (bPost I d G -∗ Q ⟨⟩)) ⊢ WP defs d tBody Q := by
  unfold bPre bPost
  simp only [body, Prog.bind_lift, wp_deviceId, wp_bind]
  iintro ⟨#HR, ⟨HS, Hx, Hy, HB, HG, HO⟩, Hk⟩
  iapply (run_list d (fun k => tA d k) (know I K) (allSt I d) (fun σ k => Function.update σ k 1) (fun k σ => σ k = 0)
    (fun k σ Q h => step_A I d K k σ Q h) ks (fun _ => 0) _ okA)
  isplitr; · iexact HR
  isplitl [HS]; · iexact HS
  rw [endA]
  iintro HS
  iapply (run_B I d K _)
  isplitr; · iexact HR
  isplitl [Hx Hy HB HO]
  · isplitl [Hx]; · iexact Hx
    isplitl [Hy]; · iexact Hy
    isplitl [HB]; · iexact HB
    iexact HO
  iintro ⟨Hx, Hy, HB, HO⟩
  ihave HS := (lent I d) $$ [HS Hx Hy]
  · isplitl [HS]; · iexact HS
    isplitl [Hx] <;> iassumption
  iapply (run_list d (fun k => tX d k) (know I K) (fun σ => iprop(allSt I d σ ∗ debt d (Ow d σ))) (fun σ k => Function.update σ k 3) (fun k σ => σ k = 2)
    (fun k σ Q h => step_of I d K (tX d k) k σ Q 2 3 h fun Q' => run_X I d k K σ h Q') ks (fun _ => 2) _ okX)
  isplitr; · iexact HR
  isplitl [HS HO]
  · isplitl [HS]; · iexact HS
    rw [Ow_congr (d := d) (σ := fun _ => 2) (σ' := fun _ => 0) (fun _ => by decide) (fun _ => by decide)]; iexact HO
  rw [endX]
  iintro ⟨HS, HO⟩
  iapply (run_G d G _)
  isplitl [HG]; · iexact HG
  iintro HG
  rw [← hG]
  iapply (run_list d (tStep d (I.g d)) (know I K) (fun σ => iprop(allSt I d σ ∗ debt d (Ow d σ))) nxt may
    (fun a σ Q h => step_any I d K a σ Q h) listY (fun _ => 3) _ okY)
  isplitr; · iexact HR
  isplitl [HS HO]
  · isplitl [HS] <;> iassumption
  rw [endY]
  iintro ⟨HS, HO⟩
  iapply Hk
  isplitl [HS]; · iexact HS
  isplitl [HB]; · iexact HB
  isplitl [HG]; · iexact HG
  rw [← Ow_done (d := d) (σ := fun _ => 6) (fun _ => by decide)]
  iexact HO

end Cert.AR

end
-- ==== Proof.Split.lean ====
/- The buffers chunk by chunk: a buffer of 1024 rows is its sixteen chunks, one of 2048 rows the thirty-two chunks of the
   two halves, in both directions. -/
module

public import proofs.«01_k».proof.Proof.Run
public import Idealize.ShloMosaic.Lib.ValueIdxCore
public import Idealize.ShloMosaic.Lib.Ring

@[expose] public section

noncomputable section

namespace Cert.AR

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

instance elt_nonempty (e : EltTy) : Nonempty (Elt F e) :=
  match e with
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

variable (d : Dev nD)

/-! ## The rectangles -/

theorem mem_rc (k : Fin 16) (i : S1024x2048.Idx) : i ∈ (rc k).set ↔ 64 * k.val ≤ (i 0).val ∧ (i 0).val < 64 * k.val + 64 := by
  rw [Rect.mem_set_unit, Fin.forall_fin_two]
  have h1 : (i 1).val < 2048 := (i 1).isLt
  constructor
  · exact fun h => h.1
  · exact fun h => ⟨h, Nat.zero_le _, by show (i 1).val < 0 + 2048; omega⟩

theorem mem_ro1 (k : Fin 16) (i : S2048x2048.Idx) :
    i ∈ (ro1 d k).set ↔ 1024 * (d.val % 2) + 64 * k.val ≤ (i 0).val ∧ (i 0).val < 1024 * (d.val % 2) + 64 * k.val + 64 := by
  rw [Rect.mem_set_unit, k0_off1_eq, Fin.forall_fin_two]
  have h1 : (i 1).val < 2048 := (i 1).isLt
  constructor
  · exact fun h => h.1
  · exact fun h => ⟨h, Nat.zero_le _, by show (i 1).val < 0 + 2048; omega⟩

theorem mem_ro2 (k : Fin 16) (i : S2048x2048.Idx) :
    i ∈ (ro2 d k).set ↔ (64 * k.val + 1024) - 1024 * (d.val % 2) ≤ (i 0).val ∧ (i 0).val < (64 * k.val + 1024) - 1024 * (d.val % 2) + 64 := by
  rw [Rect.mem_set_unit, k0_off2_eq, Fin.forall_fin_two]
  have h1 : (i 1).val < 2048 := (i 1).isLt
  constructor
  · exact fun h => h.1
  · exact fun h => ⟨h, Nat.zero_le _, by show (i 1).val < 0 + 2048; omega⟩

/-- The chunks of both halves. -/
def rh : Fin 16 ⊕ Fin 16 → Rect S2048x2048
  | .inl k => ro1 d k
  | .inr k => ro2 d k
theorem rh_stride : ∀ t a, (rh d t).stride a = 1
  | .inl _, _ => rfl
  | .inr _, _ => rfl

theorem ne_val {j k : Fin 16} (h : j ≠ k) : j.val ≠ k.val := fun e => h (Fin.ext e)

theorem rc_disjoint (j k : Fin 16) (h : j ≠ k) : Disjoint (rc j).set (rc k).set := by
  rw [Finset.disjoint_left]
  intro i hi hi'
  rw [mem_rc] at hi hi'
  have := ne_val h
  omega
theorem rc_cover : Finset.univ.biUnion (fun k => (rc k).set) = Finset.univ := by
  ext i
  have h0 : (i 0).val < 1024 := (i 0).isLt
  simp only [Finset.mem_biUnion, Finset.mem_univ, true_and, iff_true]
  exact ⟨⟨(i 0).val / 64, by omega⟩, (mem_rc _ i).mpr (by dsimp only; omega)⟩

theorem rh_disjoint (t u : Fin 16 ⊕ Fin 16) (h : t ≠ u) : Disjoint (rh d t).set (rh d u).set := by
  rw [Finset.disjoint_left]
  intro i hi hi'
  have hd : d.val % 2 < 2 := Nat.mod_lt _ (by decide)
  match t, u with
  | .inl j, .inl k =>
    have hi := (mem_ro1 d j i).mp hi; have hi' := (mem_ro1 d k i).mp hi'
    have := ne_val fun e => h (congrArg Sum.inl e)
    omega
  | .inr j, .inr k =>
    have hi := (mem_ro2 d j i).mp hi; have hi' := (mem_ro2 d k i).mp hi'
    have := ne_val fun e => h (congrArg Sum.inr e)
    omega
  | .inl j, .inr k =>
    have hi := (mem_ro1 d j i).mp hi; have hi' := (mem_ro2 d k i).mp hi'
    have := j.isLt; have := k.isLt
    omega
  | .inr j, .inl k =>
    have hi := (mem_ro2 d j i).mp hi; have hi' := (mem_ro1 d k i).mp hi'
    have := j.isLt; have := k.isLt
    omega
theorem rh_cover : Finset.univ.biUnion (fun t => (rh d t).set) = Finset.univ := by
  ext i
  have h0 : (i 0).val < 2048 := (i 0).isLt
  have hd : d.val % 2 < 2 := Nat.mod_lt _ (by decide)
  simp only [Finset.mem_biUnion, Finset.mem_univ, true_and, iff_true]
  by_cases h : (i 0).val / 1024 = d.val % 2
  · exact ⟨.inl ⟨(i 0).val % 1024 / 64, by omega⟩, (mem_ro1 d _ i).mpr (by dsimp only; omega)⟩
  · exact ⟨.inr ⟨(i 0).val % 1024 / 64, by omega⟩, (mem_ro2 d _ i).mpr (by dsimp only; omega)⟩

/-! ## Contents from chunks -/

/-- Where row `r` of a buffer lies: in which chunk of its half, and at which of its rows. -/
def ckOf (r : ℕ) : Fin 16 := ⟨r % 1024 / 64, by omega⟩
def rwOf (r : ℕ) : Fin 64 := ⟨r % 64, by omega⟩

/-- The buffer of 1024 rows with the given chunks. -/
def glue1 {α : Type} (X : Fin 16 → S64x2048.Idx → α) : S1024x2048.Idx → α := fun i => X (ckOf (i 0).val) (ix2 (rwOf (i 0).val) (i 1))
/-- The buffer of 2048 rows with the given chunks of this device's half and of the other half. -/
def glue2 {α : Type} (X Y : Fin 16 → S64x2048.Idx → α) : S2048x2048.Idx → α := fun i =>
  if (i 0).val / 1024 = d.val % 2 then X (ckOf (i 0).val) (ix2 (rwOf (i 0).val) (i 1)) else Y (ckOf (i 0).val) (ix2 (rwOf (i 0).val) (i 1))

theorem emb_rc (k : Fin 16) (j : S64x2048.Idx) : ((rc k).emb j 0).val = 64 * k.val + (j 0).val ∧ (rc k).emb j 1 = j 1 :=
  ⟨by show 64 * k.val + 1 * (j 0).val = _; omega, Fin.ext (by show 0 + 1 * (j 1).val = _; omega)⟩
theorem emb_ro1 (k : Fin 16) (j : S64x2048.Idx) :
    ((ro1 d k).emb j 0).val = 1024 * (d.val % 2) + 64 * k.val + (j 0).val ∧ (ro1 d k).emb j 1 = j 1 :=
  ⟨by rw [Rect.emb_apply]; show k0_off1 d (BitVec.ofNat 32 (64 * k.val)) 0 + 1 * (j 0).val = _; rw [k0_off1_eq]; show 1024 * (d.val % 2) + 64 * k.val + 1 * _ = _; omega,
    Fin.ext (by rw [Rect.emb_apply]; show k0_off1 d (BitVec.ofNat 32 (64 * k.val)) 1 + 1 * (j 1).val = _; rw [k0_off1_eq]; show 0 + 1 * _ = _; omega)⟩
theorem emb_ro2 (k : Fin 16) (j : S64x2048.Idx) :
    ((ro2 d k).emb j 0).val = (64 * k.val + 1024) - 1024 * (d.val % 2) + (j 0).val ∧ (ro2 d k).emb j 1 = j 1 :=
  ⟨by rw [Rect.emb_apply]; show k0_off2 d (BitVec.ofNat 32 (64 * k.val)) 0 + 1 * (j 0).val = _; rw [k0_off2_eq]; show (64 * k.val + 1024) - 1024 * (d.val % 2) + 1 * _ = _; omega,
    Fin.ext (by rw [Rect.emb_apply]; show k0_off2 d (BitVec.ofNat 32 (64 * k.val)) 1 + 1 * (j 1).val = _; rw [k0_off2_eq]; show 0 + 1 * _ = _; omega)⟩

theorem at_ix {α : Type} (X : Fin 16 → S64x2048.Idx → α) {r : ℕ} {k : Fin 16} {j : S64x2048.Idx} {b : Fin 2048}
    (hk : r % 1024 / 64 = k.val) (hj : r % 64 = (j 0).val) (hb : b = j 1) : X (ckOf r) (ix2 (rwOf r) b) = X k j := by
  have e1 : ckOf r = k := Fin.ext hk
  have e2 : rwOf r = j 0 := Fin.ext hj
  rw [e1, e2, hb]
  exact congrArg (X k) (eq_ix2 j).symm

theorem glue1_rc {α : Type} (X : Fin 16 → S64x2048.Idx → α) (k : Fin 16) : (fun j => glue1 X ((rc k).emb j)) = X k := by
  funext j
  obtain ⟨h0, h1⟩ := emb_rc k j
  have hj : (j 0).val < 64 := (j 0).isLt
  have := k.isLt
  exact at_ix X (by rw [h0]; omega) (by rw [h0]; omega) h1
theorem glue2_ro1 {α : Type} (X Y : Fin 16 → S64x2048.Idx → α) (k : Fin 16) : (fun j => glue2 d X Y ((ro1 d k).emb j)) = X k := by
  funext j
  obtain ⟨h0, h1⟩ := emb_ro1 d k j
  have hj : (j 0).val < 64 := (j 0).isLt
  have hd : d.val % 2 < 2 := Nat.mod_lt _ (by decide)
  have := k.isLt
  unfold glue2
  rw [if_pos (by rw [h0]; omega)]
  exact at_ix X (by rw [h0]; omega) (by rw [h0]; omega) h1
theorem glue2_ro2 {α : Type} (X Y : Fin 16 → S64x2048.Idx → α) (k : Fin 16) : (fun j => glue2 d X Y ((ro2 d k).emb j)) = Y k := by
  funext j
  obtain ⟨h0, h1⟩ := emb_ro2 d k j
  have hj : (j 0).val < 64 := (j 0).isLt
  have hd : d.val % 2 < 2 := Nat.mod_lt _ (by decide)
  have := k.isLt
  unfold glue2
  rw [if_neg (by rw [h0]; omega)]
  exact at_ix Y (by rw [h0]; omega) (by rw [h0]; omega) h1

/-! ## Splitting and joining -/

theorem own_some {sp : Space} {s : Shape} {e : EltTy} (M : Memref sig .tc sp s e) (X : s.Idx → Elt F e) : (own d M X : sProp 𝕄) ⊢ some' d M := by
  unfold some'; iintro H; iexists _; iexact H

theorem split1 {sp : Space} {e : EltTy} (M : Memref sig .tc sp S1024x2048 e) (X : S1024x2048.Idx → Elt F e) :
    (own d M X : sProp 𝕄) ⊢ bigSep Finset.univ fun k => some' d (ch M k) :=
  (owns_rects (d : Thread nD τ) M fullShare rc (fun _ _ => rfl) rc_disjoint rc_cover X).trans
    (bigSep_mono fun k _ => own_some d (ch M k) _)

theorem join1 {sp : Space} {e : EltTy} (M : Memref sig .tc sp S1024x2048 e) (X : Fin 16 → S64x2048.Idx → Elt F e) :
    (bigSep Finset.univ fun k => own d (ch M k) (X k)) ⊢ (own d M (glue1 X) : sProp 𝕄) := by
  have h := owns_of_rects (Ix := Unit) (Name := ℕ) (U := UU) (Lvl := ℕ) (d : Thread nD τ) M fullShare rc (fun _ _ => rfl) rc_disjoint rc_cover (glue1 X)
  refine BIBase.Entails.trans (bigSep_mono fun k _ => ?_) h
  rw [glue1_rc]
  exact BI.Entails.refl _

theorem split2 {sp : Space} {e : EltTy} (M : Memref sig .tc sp S2048x2048 e) (X : S2048x2048.Idx → Elt F e) :
    (own d M X : sProp 𝕄) ⊢ iprop((bigSep Finset.univ fun k => own d (oh1 M d k) (fun j => X ((ro1 d k).emb j)))
      ∗ bigSep Finset.univ fun k => own d (oh2 M d k) (fun j => X ((ro2 d k).emb j))) :=
  (owns_rects (d : Thread nD τ) M fullShare (rh d) (rh_stride d) (rh_disjoint d) (rh_cover d) X).trans
    (BIBase.Entails.of_eq (bigSep_univ_sum _))

theorem join2 {sp : Space} {e : EltTy} (M : Memref sig .tc sp S2048x2048 e) (X : S2048x2048.Idx → Elt F e) :
    iprop((bigSep Finset.univ fun k => own d (oh1 M d k) (fun j => X ((ro1 d k).emb j)))
      ∗ bigSep Finset.univ fun k => own d (oh2 M d k) (fun j => X ((ro2 d k).emb j))) ⊢ (own d M X : sProp 𝕄) :=
  (BIBase.Entails.of_eq (bigSep_univ_sum fun t => owns (Ix := Unit) (Name := ℕ) (U := UU) (Lvl := ℕ) (Val := Elt F) (d : Thread nD τ)
      (M.slice (rh d t) (rh_stride d t)) fullShare fun j => X ((rh d t).emb j)).symm).trans
    (owns_of_rects (d : Thread nD τ) M fullShare (rh d) (rh_stride d) (rh_disjoint d) (rh_cover d) X)

theorem join2g {sp : Space} {e : EltTy} (M : Memref sig .tc sp S2048x2048 e) (X Y : Fin 16 → S64x2048.Idx → Elt F e) :
    iprop((bigSep Finset.univ fun k => own d (oh1 M d k) (X k)) ∗ bigSep Finset.univ fun k => own d (oh2 M d k) (Y k))
      ⊢ (own d M (glue2 d X Y) : sProp 𝕄) := by
  refine BIBase.Entails.trans (BIClass.sep_mono (bigSep_mono fun k _ => ?_) (bigSep_mono fun k _ => ?_)) (join2 (F := F) d M (glue2 d X Y))
  · exact (BIBase.Entails.of_eq (congrArg (own d (oh1 M d k)) (glue2_ro1 d X Y k).symm) : (own d (oh1 M d k) (X k) : sProp 𝕄) ⊢ _)
  · exact (BIBase.Entails.of_eq (congrArg (own d (oh2 M d k)) (glue2_ro2 d X Y k).symm) : (own d (oh2 M d k) (Y k) : sProp 𝕄) ⊢ _)

end Cert.AR

end
-- ==== Proof.Ends.lean ====
/- What a device holds around the kernel function: the buffers and semaphores whole, and as the chunks the function goes by. -/
module

public import proofs.«01_k».proof.Proof.Body
public import proofs.«01_k».proof.Proof.Split

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (d : Dev nD) (k : Fin 16) (K : GSem nD τ sig → ℕ)

/-! ## The six semaphore arrays -/

/-- Over all the kernel's own semaphores, chunk by chunk. -/
theorem bigSep_osem (Φ : SemLoc sig → sProp 𝕄) : (bigSep Finset.univ fun x : Fin 6 × Fin 16 => Φ (osem x))
    = bigSep Finset.univ fun k : Fin 16 => iprop(Φ (.dma (lpS k)) ∗ Φ (.dma (lrS k)) ∗ Φ (.dma (xsS k)) ∗ Φ (.dma (xrS k)) ∗ Φ (.dma (ysS k)) ∗ Φ (.dma (yrS k))) := by
  rw [bigSep_univ_equiv (Equiv.prodComm (Fin 16) (Fin 6)), bigSep_univ_prod]
  refine bigSep_congr fun k _ => ?_
  rw [bigSep_univ_eq_bigSepL [(0 : Fin 6), 1, 2, 3, 4, 5] (by decide) (by decide)]
  rfl

theorem ownSems_eq : (Pipeline.ownSems0 osem d : sProp 𝕄) = bigSep Finset.univ fun k : Fin 16 =>
    iprop(semVal (lpC d k) 0 ∗ semVal (lrC d k) 0 ∗ semVal (xsC d k) 0 ∗ semVal (xrC d k) 0 ∗ semVal (ysC d k) 0 ∗ semVal (yrC d k) 0) :=
  bigSep_osem fun s => semVal ((d : Thread nD τ), s) 0

/-! ## What a chunk is given, and what it gives back -/

/-- The positions of the chunk's six cells, open at round 0. -/
def posAt0 : sProp 𝕄 :=
  iprop((pos (lpC d k) 0 ∗ rch (lpC d k) 0) ∗ (pos (lrC d k) 0 ∗ rch (lrC d k) 0) ∗ (pos (xsC d k) 0 ∗ rch (xsC d k) 0)
    ∗ (pos (xrC d k) 0 ∗ rch (xrC d k) 0) ∗ (pos (ysC d k) 0 ∗ rch (ysC d k) 0) ∗ (pos (yrC d k) 0 ∗ rch (yrC d k) 0))
/-- The rights the device uses: its own cells' rounds, and its neighbours' receiving cells'. -/
def toksAt : sProp 𝕄 :=
  iprop(tok (lpC d k) 0 ∗ tok (lpC d k) 1 ∗ tok (lrC d k) 0 ∗ tok (lrC d k) 1 ∗ tok (xsC d k) 0 ∗ tok (xrC (xn d) k) 0
    ∗ tok (ysC d k) 0 ∗ tok (yrC (yn d) k) 0)
/-- The credit for what the neighbours owe it. -/
def crdsAt : sProp 𝕄 := iprop(crd (xrC d k) NB ∗ crd (yrC d k) NB)
/-- The positions at the end. -/
def posEnd : sProp 𝕄 :=
  iprop(pos (lpC d k) 2 ∗ pos (lrC d k) 2 ∗ pos (xsC d k) 1 ∗ pos (xrC d k) 1 ∗ pos (ysC d k) 1 ∗ pos (yrC d k) 1)

theorem chunk_in :
    iprop(own d (oh1 mP d k) (pA I d k) ∗ own d (oh1 mR d k) (rA I d k) ∗ some' d (oh1 mO d k) ∗ some' d (oh2 mO d k)
        ∗ some' d (ch s0 k) ∗ some' d (ch s1 k) ∗ some' d (ch s2 k) ∗ some' d (ch s3 k) ∗ some' d (ch s4 k) ∗ some' d (ch s5 k)
        ∗ posAt0 (F := F) d k ∗ toksAt (F := F) d k ∗ crdsAt (F := F) d k)
      ⊢ iprop(St0 I d k ∗ hx (F := F) d k ∗ hy (F := F) d k) := by
  unfold posAt0 toksAt crdsAt hx hy St0 early
  iintro ⟨HP, HR, HO1, HO2, H0, H1, H2, H3, H4, H5, ⟨⟨HA1, HB1⟩, ⟨HA2, HB2⟩, ⟨HA3, HB3⟩, ⟨HA4, HB4⟩, ⟨HA5, HB5⟩, ⟨HA6, HB6⟩⟩,
    ⟨T1, T2, T3, T4, T5, T6, T7, T8⟩, C1, C2⟩
  iframe

theorem chunk_out : (St6 I d k : sProp 𝕄) ⊢ iprop(own d (oh1 mP d k) (pA I d k) ∗ own d (oh1 mR d k) (rA I d k)
    ∗ own d (oh1 mO d k) (o0 I d k) ∗ own d (oh2 mO d k) (o1 I d k) ∗ own d (ch s0 k) (o0 I d k) ∗ own d (ch s1 k) (o1 I d k)
    ∗ own d (ch s2 k) (xsA I d k) ∗ own d (ch s3 k) (xsA I (xn d) k) ∗ own d (ch s4 k) (ysA I d k) ∗ own d (ch s5 k) (ysA I (yn d) k)
    ∗ posEnd (F := F) d k) := by
  unfold St6 done1 done2 posEnd
  iintro ⟨⟨HP, HR, H2, H3, P1, P2⟩, ⟨H4, H5, P3, P4⟩, P5, P6, H0, HO1, H1, HO2⟩
  iframe

theorem chunks_in :
    iprop((bigSep Finset.univ fun k => own d (oh1 mP d k) (pA I d k)) ∗ (bigSep Finset.univ fun k => own d (oh1 mR d k) (rA I d k))
        ∗ (bigSep Finset.univ fun k => some' (F := F) d (oh1 mO d k)) ∗ (bigSep Finset.univ fun k => some' (F := F) d (oh2 mO d k))
        ∗ (bigSep Finset.univ fun k => some' (F := F) d (ch s0 k)) ∗ (bigSep Finset.univ fun k => some' (F := F) d (ch s1 k))
        ∗ (bigSep Finset.univ fun k => some' (F := F) d (ch s2 k)) ∗ (bigSep Finset.univ fun k => some' (F := F) d (ch s3 k))
        ∗ (bigSep Finset.univ fun k => some' (F := F) d (ch s4 k)) ∗ (bigSep Finset.univ fun k => some' (F := F) d (ch s5 k))
        ∗ bigSep Finset.univ (posAt0 (F := F) d) ∗ bigSep Finset.univ (toksAt (F := F) d) ∗ bigSep Finset.univ (crdsAt (F := F) d))
      ⊢ iprop(allSt I d (fun _ => 0) ∗ bigSep Finset.univ (hx (F := F) d) ∗ bigSep Finset.univ (hy (F := F) d)) := by
  unfold allSt
  simp only [← bigSep_sep']
  exact bigSep_mono fun k _ => chunk_in I d k

theorem chunks_out : allSt I d (fun _ => 6) ⊢
    iprop((bigSep Finset.univ fun k => own d (oh1 mP d k) (pA I d k)) ∗ (bigSep Finset.univ fun k => own d (oh1 mR d k) (rA I d k))
        ∗ (bigSep Finset.univ fun k => own d (oh1 mO d k) (o0 I d k)) ∗ (bigSep Finset.univ fun k => own d (oh2 mO d k) (o1 I d k))
        ∗ (bigSep Finset.univ fun k => own d (ch s0 k) (o0 I d k)) ∗ (bigSep Finset.univ fun k => own d (ch s1 k) (o1 I d k))
        ∗ (bigSep Finset.univ fun k => own d (ch s2 k) (xsA I d k)) ∗ (bigSep Finset.univ fun k => own d (ch s3 k) (xsA I (xn d) k))
        ∗ (bigSep Finset.univ fun k => own d (ch s4 k) (ysA I d k)) ∗ (bigSep Finset.univ fun k => own d (ch s5 k) (ysA I (yn d) k))
        ∗ bigSep Finset.univ (posEnd (F := F) d)) := by
  unfold allSt
  simp only [← bigSep_sep']
  exact bigSep_mono fun k _ => chunk_out I d k

/-! ## Buffers -/

abbrev pt (b : Ref sig .tc) (f : Buf (Elt F) ((d : Thread nD τ).loc b)) : sProp 𝕄 := (d : Thread nD τ).loc b ↦{fullShare} f

theorem own_whole (b : Ref sig .tc) (f : b.ty.Contents (Elt F)) : (own d (Memref.whole b) f : sProp 𝕄) = pt d b f :=
  owns_whole (d : Thread nD τ) b fullShare f

/-- The scratches, each at some contents. -/
def scr : sProp 𝕄 :=
  iprop((∃ f, pt (F := F) d cc0_scratch0 f) ∗ (∃ f, pt (F := F) d cc0_scratch1 f) ∗ (∃ f, pt (F := F) d cc0_scratch2 f)
    ∗ (∃ f, pt (F := F) d cc0_scratch3 f) ∗ (∃ f, pt (F := F) d cc0_scratch4 f) ∗ (∃ f, pt (F := F) d cc0_scratch5 f))

theorem sp0 : iprop(∃ f, pt (F := F) d cc0_scratch0 f) ⊢ (bigSep Finset.univ fun k => some' d (ch s0 k) : sProp 𝕄) := by
  iintro ⟨%f, H⟩
  iapply (split1 d s0 f)
  rw [own_whole]
  iexact H
theorem sp1 : iprop(∃ f, pt (F := F) d cc0_scratch1 f) ⊢ (bigSep Finset.univ fun k => some' d (ch s1 k) : sProp 𝕄) := by
  iintro ⟨%f, H⟩
  iapply (split1 d s1 f)
  rw [own_whole]
  iexact H
theorem sp2 : iprop(∃ f, pt (F := F) d cc0_scratch2 f) ⊢ (bigSep Finset.univ fun k => some' d (ch s2 k) : sProp 𝕄) := by
  iintro ⟨%f, H⟩
  iapply (split1 d s2 f)
  rw [own_whole]
  iexact H
theorem sp3 : iprop(∃ f, pt (F := F) d cc0_scratch3 f) ⊢ (bigSep Finset.univ fun k => some' d (ch s3 k) : sProp 𝕄) := by
  iintro ⟨%f, H⟩
  iapply (split1 d s3 f)
  rw [own_whole]
  iexact H
theorem sp4 : iprop(∃ f, pt (F := F) d cc0_scratch4 f) ⊢ (bigSep Finset.univ fun k => some' d (ch s4 k) : sProp 𝕄) := by
  iintro ⟨%f, H⟩
  iapply (split1 d s4 f)
  rw [own_whole]
  iexact H
theorem sp5 : iprop(∃ f, pt (F := F) d cc0_scratch5 f) ⊢ (bigSep Finset.univ fun k => some' d (ch s5 k) : sProp 𝕄) := by
  iintro ⟨%f, H⟩
  iapply (split1 d s5 f)
  rw [own_whole]
  iexact H
theorem jn0 (X : Fin 16 → FVec F S64x2048 .f32) : (bigSep Finset.univ fun k => own d (ch s0 k) (X k)) ⊢ (iprop(∃ f, pt (F := F) d cc0_scratch0 f) : sProp 𝕄) := by
  iintro H
  iexists (glue1 X)
  rw [← own_whole]
  iapply (join1 d s0 X)
  iexact H
theorem jn1 (X : Fin 16 → FVec F S64x2048 .f32) : (bigSep Finset.univ fun k => own d (ch s1 k) (X k)) ⊢ (iprop(∃ f, pt (F := F) d cc0_scratch1 f) : sProp 𝕄) := by
  iintro H
  iexists (glue1 X)
  rw [← own_whole]
  iapply (join1 d s1 X)
  iexact H
theorem jn2 (X : Fin 16 → FVec F S64x2048 .bf16) : (bigSep Finset.univ fun k => own d (ch s2 k) (X k)) ⊢ (iprop(∃ f, pt (F := F) d cc0_scratch2 f) : sProp 𝕄) := by
  iintro H
  iexists (glue1 X)
  rw [← own_whole]
  iapply (join1 d s2 X)
  iexact H
theorem jn3 (X : Fin 16 → FVec F S64x2048 .bf16) : (bigSep Finset.univ fun k => own d (ch s3 k) (X k)) ⊢ (iprop(∃ f, pt (F := F) d cc0_scratch3 f) : sProp 𝕄) := by
  iintro H
  iexists (glue1 X)
  rw [← own_whole]
  iapply (join1 d s3 X)
  iexact H
theorem jn4 (X : Fin 16 → FVec F S64x2048 .bf16) : (bigSep Finset.univ fun k => own d (ch s4 k) (X k)) ⊢ (iprop(∃ f, pt (F := F) d cc0_scratch4 f) : sProp 𝕄) := by
  iintro H
  iexists (glue1 X)
  rw [← own_whole]
  iapply (join1 d s4 X)
  iexact H
theorem jn5 (X : Fin 16 → FVec F S64x2048 .bf16) : (bigSep Finset.univ fun k => own d (ch s5 k) (X k)) ⊢ (iprop(∃ f, pt (F := F) d cc0_scratch5 f) : sProp 𝕄) := by
  iintro H
  iexists (glue1 X)
  rw [← own_whole]
  iapply (join1 d s5 X)
  iexact H

/-- The other half of the partial and of the residual, which the function does not touch. -/
def kept : sProp 𝕄 :=
  iprop((bigSep Finset.univ fun k => own d (oh2 mP d k) (fun j => I.p d ((ro2 d k).emb j)))
    ∗ bigSep Finset.univ fun k => own d (oh2 mR d k) (fun j => I.r d ((ro2 d k).emb j)))

theorem out_split (X : FVec F S2048x2048 .f32) : (own d mO X : sProp 𝕄)
    ⊢ iprop((bigSep Finset.univ fun k => some' d (oh1 mO d k)) ∗ bigSep Finset.univ fun k => some' d (oh2 mO d k)) :=
  (split2 d mO X).trans (BIClass.sep_mono (bigSep_mono fun k _ => own_some d (oh1 mO d k) _) (bigSep_mono fun k _ => own_some d (oh2 mO d k) _))

/-- What the function is entered with, as its chunks go by it. -/
theorem before_body (X : FVec F S2048x2048 .f32) :
    iprop(scr (F := F) d ∗ (pt d main_v1 (I.p d) ∗ pt d main_arg1 (I.r d) ∗ pt d main_v3 X)
        ∗ bigSep Finset.univ (posAt0 (F := F) d) ∗ bigSep Finset.univ (toksAt (F := F) d) ∗ bigSep Finset.univ (crdsAt (F := F) d))
      ⊢ iprop((allSt I d (fun _ => 0) ∗ bigSep Finset.univ (hx (F := F) d) ∗ bigSep Finset.univ (hy (F := F) d)) ∗ kept I d) := by
  rw [← own_whole d main_v1, ← own_whole d main_arg1, ← own_whole d main_v3]
  unfold scr kept
  iintro ⟨⟨H0, H1, H2, H3, H4, H5⟩, ⟨HP, HR, HO⟩, HA, HT, HC⟩
  ihave H0 := (sp0 d) $$ H0
  ihave H1 := (sp1 d) $$ H1
  ihave H2 := (sp2 d) $$ H2
  ihave H3 := (sp3 d) $$ H3
  ihave H4 := (sp4 d) $$ H4
  ihave H5 := (sp5 d) $$ H5
  ihave HP := (split2 d mP (I.p d)) $$ HP
  ihave HR := (split2 d mR (I.r d)) $$ HR
  ihave HO := (out_split d X) $$ HO
  icases HP with ⟨HP1, HP2⟩
  icases HR with ⟨HR1, HR2⟩
  icases HO with ⟨HO1, HO2⟩
  isplitr [HP2 HR2]
  · iapply (chunks_in I d)
    isplitl [HP1]; · iexact HP1
    isplitl [HR1]; · iexact HR1
    iframe
  · isplitl [HP2] <;> iassumption

/-- The result as the function leaves it: the device's own half, and the half its second neighbour sent. -/
def outB : FVec F S2048x2048 .f32 := glue2 d (o0 I d) (o1 I d)

/-- What the function leaves, whole again. -/
theorem after_chunks : iprop(allSt I d (fun _ => 6) ∗ kept I d)
    ⊢ iprop(scr (F := F) d ∗ (pt d main_v1 (I.p d) ∗ pt d main_arg1 (I.r d) ∗ pt d main_v3 (outB I d)) ∗ bigSep Finset.univ (posEnd (F := F) d)) := by
  rw [← own_whole d main_v1, ← own_whole d main_arg1, ← own_whole d main_v3]
  unfold scr kept outB
  iintro ⟨H, HP2, HR2⟩
  ihave H := (chunks_out I d) $$ H
  icases H with ⟨HP1, HR1, HO1, HO2, H0, H1, H2, H3, H4, H5, HA⟩
  ihave H0 := (jn0 d _) $$ H0
  ihave H1 := (jn1 d _) $$ H1
  ihave H2 := (jn2 d _) $$ H2
  ihave H3 := (jn3 d _) $$ H3
  ihave H4 := (jn4 d _) $$ H4
  ihave H5 := (jn5 d _) $$ H5
  ihave HP := (join2 d mP (I.p d)) $$ [HP1 HP2]
  · isplitl [HP1]
    · iexact HP1
    · iexact HP2
  ihave HR := (join2 d mR (I.r d)) $$ [HR1 HR2]
  · isplitl [HR1]
    · iexact HR1
    · iexact HR2
  ihave HO := (join2g d mO (o0 I d) (o1 I d)) $$ [HO1 HO2]
  · isplitl [HO1]
    · iexact HO1
    · iexact HO2
  iframe

/-! ## Opening and closing the cells -/

theorem open_one (a : Fin 6) : iprop(invs I K ∗ openTok ER ((d : Thread nD τ), osem (a, k)) ∗ semVal ((d : Thread nD τ), osem (a, k)) 0)
    ⊢ (|={Set.univ}=> iprop(pos ((d : Thread nD τ), osem (a, k)) 0 ∗ rch ((d : Thread nD τ), osem (a, k)) 0) : sProp 𝕄) := by
  iintro ⟨#HI, Ho, Hv⟩
  iapply (Rounds.cell_open ER (Rd I) (g := ((d : Thread nD τ), osem (a, k))) (Set.mem_univ (K (scC (d, a, k)))))
  isplitr; · iapply (inv_sc I K d a k); iexact HI
  isplitl [Ho] <;> iassumption

theorem open_at (x : Fin 6 × Fin 16) : iprop(invs I K ∗ (openTok ER ((d : Thread nD τ), osem x) ∗ semVal ((d : Thread nD τ), osem x) 0))
    ⊢ (|={Set.univ}=> iprop(pos ((d : Thread nD τ), osem x) 0 ∗ rch ((d : Thread nD τ), osem x) 0) : sProp 𝕄) :=
  open_one I d x.2 K x.1

theorem open_all : iprop(invs I K ∗ (bigSep Finset.univ fun x : Fin 6 × Fin 16 => openTok ER ((d : Thread nD τ), osem x)) ∗ Pipeline.ownSems0 osem d)
    ⊢ (|={Set.univ}=> bigSep Finset.univ (posAt0 (F := F) d) : sProp 𝕄) := by
  have h : iprop(invs I K ∗ bigSep Finset.univ fun x : Fin 6 × Fin 16 => iprop(openTok ER ((d : Thread nD τ), osem x) ∗ semVal ((d : Thread nD τ), osem x) 0))
      ⊢ (|={Set.univ}=> bigSep Finset.univ fun x : Fin 6 × Fin 16 => iprop(pos ((d : Thread nD τ), osem x) 0 ∗ rch ((d : Thread nD τ), osem x) 0) : sProp 𝕄) :=
    (bigSep_with_persistent fun x _ => open_at I d K x).trans (bigSep_fupd _ _)
  rw [bigSep_osem (fun s => iprop(pos ((d : Thread nD τ), s) 0 ∗ rch ((d : Thread nD τ), s) 0)), bigSep_sep'] at h
  exact h

theorem close_at (s : SemLoc sig) (κ : ℕ) (R : ℕ) (hR : ∀ r, R ≤ r → (Rd I).duties ((d : Thread nD τ), s) r = ∅) :
    iprop(cellInv ER (Rd I) κ ((d : Thread nD τ), s) ∗ pos ((d : Thread nD τ), s) R) ⊢ (|={Set.univ}=> semVal ((d : Thread nD τ), s) 0 : sProp 𝕄) :=
  Rounds.cell_close ER (Rd I) (Set.mem_univ κ) (fun h => h) hR

theorem close_chunk : iprop(invs I K ∗ posEnd (F := F) d k) ⊢ (|={Set.univ}=> iprop(semVal (lpC d k) 0 ∗ semVal (lrC d k) 0 ∗ semVal (xsC d k) 0
    ∗ semVal (xrC d k) 0 ∗ semVal (ysC d k) 0 ∗ semVal (yrC d k) 0) : sProp 𝕄) := by
  unfold posEnd
  iintro ⟨#HI, P1, P2, P3, P4, P5, P6⟩
  imod (close_at I d (.dma (lpS k)) _ 2 (duties_later I d _)) $$ [P1] with P1
  · isplitr; · iapply (inv_lp I d k K); iexact HI
    iexact P1
  imod (close_at I d (.dma (lrS k)) _ 2 (duties_later I d _)) $$ [P2] with P2
  · isplitr; · iapply (inv_lr I d k K); iexact HI
    iexact P2
  imod (close_at I d (.dma (xsS k)) _ 1 (duties_later1 I d _ (by rw [dec_xs]))) $$ [P3] with P3
  · isplitr; · iapply (inv_xs I d k K); iexact HI
    iexact P3
  imod (close_at I d (.dma (xrS k)) _ 1 (duties_later1 I d _ (by rw [dec_xr]; dsimp only; omega))) $$ [P4] with P4
  · isplitr; · iapply (inv_xr I d k K); iexact HI
    iexact P4
  imod (close_at I d (.dma (ysS k)) _ 1 (duties_later1 I d _ (by rw [dec_ys]; dsimp only; omega))) $$ [P5] with P5
  · isplitr; · iapply (inv_ys I d k K); iexact HI
    iexact P5
  imod (close_at I d (.dma (yrS k)) _ 1 (duties_later1 I d _ (by rw [dec_yr]; dsimp only; omega))) $$ [P6] with P6
  · isplitr; · iapply (inv_yr I d k K); iexact HI
    iexact P6
  imodintro
  iframe

theorem close_all : iprop(invs I K ∗ bigSep Finset.univ (posEnd (F := F) d)) ⊢ (|={Set.univ}=> Pipeline.ownSems0 osem d : sProp 𝕄) := by
  rw [ownSems_eq]
  exact (bigSep_with_persistent fun k _ => close_chunk I d k K).trans (bigSep_fupd _ _)

theorem close_bar : iprop(invs I K ∗ pos (barC d) 1) ⊢ (|={Set.univ}=> semVal (barC d) 0 : sProp 𝕄) := by
  iintro ⟨#HI, HP⟩
  iapply (close_at I d (.reg barS) _ 1 (duties_later1 I d _ (by rw [dec_bar]; decide)))
  isplitr; · iapply (inv_bar I K d); iexact HI
  iexact HP

end Cert.AR

end
-- ==== Proof.Region.lean ====
/- The kernel region on one device: the proof data of its pipeline, the body's obligation, and the region's record. -/
module

public import proofs.«01_k».proof.Proof.Ends
public import proofs.«01_k».proof.Proof.Gen.KernelIdeal.Frame

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Contents -/

/-- The buffers at launch, when the region is entered, and after it. -/
def W₀ : Valuation τ sig (Elt F) := fun b => m (c, b)
def W₁ : Valuation τ sig (Elt F) := StableHlo.after hostOps0 (W₀ m c)
/-- What the staging buffer of the scale holds. -/
def stg : FVec F S1x2048 .f32 := iblk m c 0 t0_0
/-- What the devices hold when the kernel is entered. -/
def inp : Inp F where
  p c := V m c main_v1
  r c := V m c main_arg1
  g c := gOf (stg m c)
def W₂ : Valuation τ sig (Elt F) := Function.update (W₁ m c) (Proc.devRef .tc main_v3) (outB (inp m) c)

theorem W₂_v3 : W₂ m c (Proc.devRef .tc main_v3) = outB (inp m) c := Function.update_self ..
theorem W₂_ne (b : DevRef τ sig) (h : b ≠ Proc.devRef .tc main_v3) : W₂ m c b = W₁ m c b := Function.update_of_ne h ..

/-- The buffers the kernel addresses itself, and those that are no window's array. -/
def Hs : Finset (DevRef τ sig) := {Proc.devRef .tc main_v1, Proc.devRef .tc main_arg1, Proc.devRef .tc main_v3}
def Sr : Finset (DevRef τ sig) :=
  {Proc.devRef .tc main_arg0, Proc.devRef .tc main_arg1, Proc.devRef .tc main_arg2, Proc.devRef .tc main_v1, Proc.devRef .tc main_v3}

theorem held_Hs (W : Valuation τ sig (Elt F)) : (StableHlo.held (c : Thread nD τ) Hs W : sProp 𝕄)
    = iprop(pt c main_v1 (W (Proc.devRef .tc main_v1)) ∗ pt c main_arg1 (W (Proc.devRef .tc main_arg1)) ∗ pt c main_v3 (W (Proc.devRef .tc main_v3))) := by
  unfold StableHlo.held
  rw [bigSep_eq_bigSepL_of_eq [Proc.devRef .tc main_v1, Proc.devRef .tc main_arg1, Proc.devRef .tc main_v3] (by decide) (by decide)]
  rfl

/-! ## The thread states around the region -/

/-- What the launch keeps for the region, -/
def Tk : sProp 𝕄 :=
  iprop(∃ K, invs (inp m) K ∗ barPre (F := F) c ∗ (bigSep Finset.univ fun x : Fin 6 × Fin 16 => openTok ER ((c : Thread nD τ), osem x))
    ∗ bigSep Finset.univ (toksAt (F := F) c) ∗ bigSep Finset.univ (crdsAt (F := F) c))
/-- the same with the region's own cells open, -/
def Xk : sProp 𝕄 :=
  iprop(∃ K, know (inp m) K ∗ barPre (F := F) c ∗ bigSep Finset.univ (posAt0 (F := F) c)
    ∗ bigSep Finset.univ (toksAt (F := F) c) ∗ bigSep Finset.univ (crdsAt (F := F) c))
/-- and what the region leaves of it. -/
def Yk : sProp 𝕄 := semVal (barC c) 0

theorem hopen : iprop(Tk m c ∗ ownSems0 osem c ∗ levAts L lv) ⊢ (|={Set.univ}=> Xk m c : sProp 𝕄) := by
  unfold Tk Xk
  iintro ⟨⟨%K, #HI, HB, Ho, HT, HC⟩, Hs, #Hlev⟩
  imod (open_all (inp m) c K) $$ [Ho Hs] with HA
  · isplitr; · iexact HI
    isplitl [Ho] <;> iassumption
  imodintro
  iexists K
  isplitr
  · isplitr
    · iexact HI
    · iexact Hlev
  iframe

/-! ## The proof data -/

abbrev srest : sProp 𝕄 := scopedRest (Ix := Unit) (Name := ℕ) (U := UU) (Lvl := ℕ) (Val := Elt F) spec0 c

def Φin : sProp 𝕄 := iprop(srest (F := F) c ∗ (∃ r, prngReg c r) ∗ StableHlo.held (c : Thread nD τ) Hs (W₁ m c) ∗ Xk m c)
def Φout : sProp 𝕄 :=
  iprop(srest (F := F) c ∗ (∃ r, prngReg c r) ∗ StableHlo.held (c : Thread nD τ) Hs (W₂ m c) ∗ ownSems0 osem c ∗ Yk (F := F) c)

def dat0 (c : Dev nD) : Dat τ (Elt F) Unit ℕ UU ℕ cfg0 c where
  A w := V m c (arrRef spec0 w)
  after
    | 0, t => iblk m c 0 t
    | ⟨_ + 1, h⟩, _ => absurd h (Nat.not_lt.2 (Nat.le_add_left _ _))
  Φ t := if t.val = 0 then Φin m c else Φout m c
  q _ := fullShare
  owed t := if t.val = 0 then Oall c else 0

abbrev adm : (p : Fin 1) → (pcfgs (F := F) p).Adm := fun p => (cfgs p).toPCfg_adm
def pdats : (p : Fin 1) → (c : Dev nD) → Dat τ (Elt F) Unit ℕ UU ℕ (pin (pcfgs (F := F)) adm p) c
  | 0 => dat0 m
  | ⟨_ + 1, h⟩ => absurd h (Nat.not_lt.2 (Nat.le_add_left _ _))

theorem t0_first : (t0_0.castSucc : Fin (cfg0.N + 1)).val = 0 := rfl
theorem t0_last : (t0_0.succ : Fin (cfg0.N + 1)).val ≠ 0 := Nat.succ_ne_zero _
theorem Φ_at (t : Fin (cfg0.N + 1)) : (dat0 m c).Φ t = if t.val = 0 then Φin m c else Φout m c := rfl
theorem owed_at (t : Fin (cfg0.N + 1)) : (dat0 m c).owed t = if t.val = 0 then Oall c else 0 := rfl
theorem Φ_first : (dat0 m c).Φ t0_0.castSucc = Φin m c := by rw [Φ_at, if_pos t0_first]
theorem Φ_last : (dat0 m c).Φ t0_0.succ = Φout m c := by rw [Φ_at, if_neg t0_last]
theorem owed_first : (dat0 m c).owed t0_0.castSucc = Oall c := by rw [owed_at, if_pos t0_first]
theorem owed_last : (dat0 m c).owed t0_0.succ = 0 := by rw [owed_at, if_neg t0_last]

theorem owesAt_of (t : Fin (cfg0.N + 1)) (O : CellTallies nD τ sig Unit) (h : (dat0 m c).owed t = O) :
    (debt c O : sProp 𝕄) ⊢ (dat0 m c).owesAt () t := by
  unfold Dat.owesAt owesWithin Dat.bound
  rw [h]
  iintro ⟨%W, HO⟩
  iexists W
  isplitr
  · ipureintro; exact fun _ _ => Or.inl trivial
  iexact HO
theorem owesAt_to (t : Fin (cfg0.N + 1)) (O : CellTallies nD τ sig Unit) (h : (dat0 m c).owed t = O) :
    (dat0 m c).owesAt () t ⊢ (debt c O : sProp 𝕄) := by
  unfold Dat.owesAt owesWithin
  rw [h]
  iintro ⟨%W, -, HO⟩
  iexists W
  iexact HO

/-- The staging buffer holds the scale when the body runs. -/
theorem before_stg (x) : (dat0 m c).before 0 t0_0 x = stg m c :=
  ((dat0 m c).before_in_eq_fetched 0 rfl (fun _ => rfl) (fun _ _ _ => rfl) (fun t => by show iblk m c 0 t = _; unfold Dat.blockOf iblk; rfl) t0_0 x).trans
    (by unfold Dat.fetched Dat.blockOf stg iblk; rfl)

/-! ## The body -/

theorem body_wp (X : PUnit → sProp 𝕄) (hX : iprop(Φout m c ∗ debt c 0 ∗ pt c cc0_stg0_0 (stg m c)) ⊢ X ⟨⟩) :
    iprop(Φin m c ∗ debt c (Oall c) ∗ pt c cc0_stg0_0 (stg m c)) ⊢ WP defs₀ c (tBody (F := F)) X := by
  refine BIBase.Entails.trans ?_ (wp_fupd _ _ _ _ _)
  unfold Φin Xk srest
  rw [scopedRest0_eq, held_Hs]
  iintro ⟨⟨Hs, Hp, Hh, ⟨%K, #HR, HB, HA, HT, HC⟩⟩, HO, HG⟩
  ihave H := (before_body (inp m) c (W₁ m c (Proc.devRef .tc main_v3))) $$ [Hs Hh HA HT HC]
  · unfold scr
    isplitl [Hs]; · iexact Hs
    isplitl [Hh]; · iexact Hh
    iframe
  icases H with ⟨⟨HS, Hx, Hy⟩, HK⟩
  iapply (run_body (inp m) c K (stg m c) rfl _)
  isplitr; · iexact HR
  isplitl [HS Hx Hy HB HG HO]
  · unfold bPre
    iframe
  unfold bPost
  iintro ⟨HS, HB, HG, HO⟩
  icases HR with ⟨#HI, -⟩
  ihave H := (after_chunks (inp m) c) $$ [HS HK]
  · isplitl [HS] <;> iassumption
  icases H with ⟨Hs, Hh, HE⟩
  imod (close_all (inp m) c K) $$ [HE] with HE
  · isplitr; · iexact HI
    iexact HE
  imod (close_bar (inp m) c K) $$ [HB] with HB
  · isplitr; · iexact HI
    iexact HB
  imodintro
  iapply hX
  isplitl [Hs Hp Hh HE HB]
  · unfold Φout Yk srest
    rw [scopedRest0_eq, held_Hs, W₂_v3, W₂_ne m c _ (by decide), W₂_ne m c _ (by decide)]
    unfold scr
    isplitl [Hs]; · iexact Hs
    isplitl [Hp]; · iexact Hp
    isplitl [Hh]; · iexact Hh
    isplitl [HE] <;> iassumption
  isplitl [HO] <;> iassumption

theorem stg_after : (pt c cc0_stg0_0 (stg m c) : sProp 𝕄) ⊢ owns (c.tc : Thread nD τ) (stage0_0 0) fullShare ((dat0 m c).after 0 t0_0) :=
  BIBase.Entails.of_eq (own_whole c cc0_stg0_0 (stg m c)).symm

theorem body_ob : BodyObligation (dat0 m c) (defs₀ (F := F)) 𝒱₀ () Set.univ := fun t => by
  obtain rfl := fin_N0 t
  rw [bigSep_W0, bigSep_W0, Φ_first, Φ_last]
  dsimp only
  have hb : defs₀ (F := F) .tc cfg0.body (cfg0.bodyArgs t0_0 (cfg0.slots t0_0)) = tBody (F := F) := cc0_body_eq ..
  rw [hb]
  iintro ⟨HΦ, HO, %x, HG⟩
  rw [before_stg]
  ihave HO := (owesAt_to m c t0_0.castSucc _ (owed_first m c)) $$ HO
  iapply (body_wp m c _ ?_)
  rotate_left
  · isplitl [HΦ]; · iexact HΦ
    isplitl [HO]; · iexact HO
    rw [← own_whole]
    iexact HG
  iintro ⟨HΦ, HO, HG⟩
  isplitl [HΦ]; · iexact HΦ
  isplitl [HO]; · iapply (owesAt_of m c t0_0.succ 0 (owed_last m c)); iexact HO
  iapply (stg_after m c)
  iexact HG

/-! ## The region -/

theorem kitP : PLaunchFacts (nD := nD) (τ := τ) (pcfgs (F := F)) 0 where
  cellOf_inj a := by rw [Subsingleton.elim a adm]; exact cellOf_inj
  win := winFacts0
  pre := PreFacts.none _
  block_pos := block_pos0
  arr_whole := arr_whole0
  stage_whole := stage_whole0

theorem osem_scoped : OwnSemFacts spec0 osem := by decide

theorem Oall_pos {d : Dev nD} {g : GSem nD τ sig} {u : Unit} (h : 0 < Oall d g u) : u ∈ L g ∧ 0 < lv g u := by
  unfold Oall at h
  rw [Pi.add_apply, Finsupp.add_apply, Pi.add_apply, Finsupp.add_apply, tallyAt_apply, tallyAt_apply] at h
  have hbar (e : Dev nD) : u ∈ L (barC e) ∧ 0 < lv (barC e) u := ⟨by rw [L_tc]; exact Finset.mem_singleton_self _, by unfold lv; rw [dec_bar]; decide⟩
  by_cases h1 : g = barC (yn d) ∧ u = ()
  · rw [h1.1]; exact hbar _
  by_cases h2 : g = barC (xn d) ∧ u = ()
  · rw [h2.1]; exact hbar _
  rw [if_neg h1, if_neg h2] at h
  rw [Nat.add_zero] at h
  rcases Ow_pos h with ⟨k, -, rfl⟩ | ⟨k, -, rfl⟩
  · exact ⟨by rw [L_tc]; exact Finset.mem_singleton_self _, by unfold lv; rw [dec_xr]; simp [lvl]⟩
  · exact ⟨by rw [L_tc]; exact Finset.mem_singleton_self _, by unfold lv; rw [dec_yr]; simp [lvl]⟩

theorem cut : LevelCutOwed (pcfgs (F := F)) adm (pdats m) () L lv 0 (fun _ => 0) where
  hι c w s := by rw [L_tc]; exact Finset.mem_singleton_self _
  hιb c w s := by
    revert w s
    exact (by decide : ∀ (w : Fin 1) (s : Fin (win0 w).nbuf), lvl (dec (.dma ((win0 w).sem s))) ≤ 0)
  hD c t g i h := by
    have e : (pdats m 0 c).owed t = if t.val = 0 then Oall c else 0 := rfl
    rw [e] at h
    split at h
    · exact Oall_pos h
    · exact absurd h (Nat.lt_irrefl 0)

theorem last_ne : (Fin.last cfg0.N).val ≠ 0 := by decide

theorem Φ0_eq : (pdats m 0 c).Φ 0 = Φin m c := by show (if ((0 : Fin (cfg0.N + 1)).val = 0) then Φin m c else Φout m c) = _; exact if_pos rfl
theorem ΦN_eq : (pdats m 0 c).Φ (Fin.last _) = Φout m c := by
  show (if (Fin.last cfg0.N).val = 0 then Φin m c else Φout m c) = _; exact if_neg last_ne
theorem owed0_eq : (pdats m 0 c).owed 0 = Oall c := by show (if ((0 : Fin (cfg0.N + 1)).val = 0) then Oall c else 0) = _; exact if_pos rfl
theorem owedN_eq : (pdats m 0 c).owed (Fin.last _) = 0 := by show (if (Fin.last cfg0.N).val = 0 then Oall c else 0) = 0; exact if_neg last_ne

theorem arr_at (w : Fin 1) (t : ℕ) : (dat0 m c).arrAt w t = V m c (arrRef spec0 w) :=
  (dat0 m c).arrAt_in w (by revert w; decide) t

theorem arr_W₁ (w : Fin 1) : V m c (arrRef spec0 w) = W₁ m c (Proc.devRef .tc (arrRef spec0 w)) := rfl
theorem arr_W₂ (w : Fin 1) : V m c (arrRef spec0 w) = W₂ m c (Proc.devRef .tc (arrRef spec0 w)) :=
  (W₂_ne m c _ (by revert w; decide)).symm

theorem W_rest (b : DevRef τ sig) (h : b ∈ Sr \ Hs) : W₂ m c b = W₁ m c b :=
  W₂_ne m c b fun e => by subst e; exact absurd h (by decide)

set_option backward.isDefEq.respectTransparency.types false in
def reg : RegionSeg (pcfgs (F := F)) adm (pdats m) () defs₀ 𝒱₀ L lv 0 :=
  RegionSeg.ofTalk (pcfgs (F := F)) adm (pdats m) () defs₀ 𝒱₀ L lv 0 osem osem_scoped
    Hs Sr (by decide) kitP rfl (fun c => (body_ob m c).loose)
    (fun _ => 0) Oall (fun c => (owed0_eq m c).trans (zero_add _).symm) (owedN_eq m) (fun _ => rfl)
    (fun c w => by unfold Dat.share; exact ite_self _)
    (W₁ m) (W₂ m) (fun c b hb => W_rest m c b hb)
    (Tk m) Yk (Xk m) Yk (hopen m)
    (fun c => by rw [Φ0_eq]; exact BI.Entails.refl _) (fun c => by rw [ΦN_eq]; exact BI.Entails.refl _)
    (fun c => by iintro H; imodintro; iexact H)
    (fun _ => 0) (cut m) (fun _ => iprop(emp))
    (fun c w => (arr_at m c w 0).trans (arr_W₁ m c w)) (fun c w => (arr_at m c w _).trans (arr_W₂ m c w))

end Cert.AR

end
-- ==== Proof.Deal.lean ====
/- What the launch makes and deals out: the cells' rounds, the rights to pay them, and the credit for what is owed. -/
module

public import proofs.«01_k».proof.Proof.Region

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

theorem osem_ne_bar (x : Fin 6 × Fin 16) : osem x ≠ .reg barS := fun h => by
  have e := dec_osem x.1 x.2
  rw [show osem (x.1, x.2) = .reg barS from h, dec_bar] at e
  have := (Prod.mk.inj e).1
  have := x.1.isLt
  omega

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

abbrev Tok : Type := GSem nD τ sig × ℕ × Bool

/-- The eight duties of a chunk: its array and its round. -/
def dutyArr : Fin 8 → Fin 6 := ![0, 0, 1, 1, 2, 3, 4, 5]
def dutyRnd : Fin 8 → ℕ := ![0, 1, 0, 1, 0, 0, 0, 0]
theorem duty_inj : Function.Injective fun j : Fin 8 => (dutyArr j, dutyRnd j) := by decide

def barTok (x : Dev nD × Bool) : Tok := (barC x.1, 0, x.2)
def scTok (x : Dev nD × Fin 16 × Fin 8) : Tok := (scC (x.1, dutyArr x.2.2, x.2.1), dutyRnd x.2.2, false)

theorem barTok_inj : Function.Injective barTok := fun _ _ h =>
  Prod.ext (congrArg (fun t : Tok => t.1.1.1) h) (congrArg (fun t : Tok => t.2.2) h)
theorem scTok_inj : Function.Injective scTok := fun x y h => by
  have hd : x.1 = y.1 := congrArg (fun t : Tok => t.1.1.1) h
  have hs : (dutyArr x.2.2, x.2.1) = (dutyArr y.2.2, y.2.1) := osem_inj (congrArg (fun t : Tok => t.1.2) h)
  have hr : dutyRnd x.2.2 = dutyRnd y.2.2 := congrArg (fun t : Tok => t.2.1) h
  have hj : x.2.2 = y.2.2 := duty_inj (Prod.ext (congrArg Prod.fst hs :) hr)
  exact Prod.ext hd (Prod.ext (congrArg Prod.snd hs) hj)

def barToks : Finset Tok := Finset.univ.map ⟨barTok, barTok_inj⟩
def scToks : Finset Tok := Finset.univ.map ⟨scTok, scTok_inj⟩

theorem disjoint_toks : Disjoint barToks scToks := by
  rw [Finset.disjoint_left]
  rintro t h₁ h₂
  obtain ⟨x, -, rfl⟩ := Finset.mem_map.mp h₁
  obtain ⟨y, -, h⟩ := Finset.mem_map.mp h₂
  exact osem_ne_bar (dutyArr y.2.2, y.2.1) (congrArg (fun t : Tok => t.1.2) h)

/-- The tokens of a device's own cells. -/
def ownToks (c : Dev nD) (k : Fin 16) : sProp 𝕄 :=
  iprop(tok (lpC c k) 0 ∗ tok (lpC c k) 1 ∗ tok (lrC c k) 0 ∗ tok (lrC c k) 1 ∗ tok (xsC c k) 0 ∗ tok (xrC c k) 0 ∗ tok (ysC c k) 0 ∗ tok (yrC c k) 0)

theorem barToks_eq : (bigSep barToks fun t => (dutyTok ER t.1 t.2.1 t.2.2 : sProp 𝕄))
    = bigSep Finset.univ fun c : Dev nD => iprop(dutyTok ER (barC c) 0 false ∗ dutyTok ER (barC c) 0 true) := by
  unfold barToks
  rw [bigSep_map, bigSep_univ_prod]
  refine bigSep_congr fun c _ => ?_
  rw [bigSep_univ_eq_bigSepL [false, true] (by decide) (by decide)]
  rfl

theorem scToks_eq : (bigSep scToks fun t => (dutyTok ER t.1 t.2.1 t.2.2 : sProp 𝕄))
    = bigSep Finset.univ fun c : Dev nD => bigSep Finset.univ (ownToks (F := F) c) := by
  unfold scToks
  rw [bigSep_map, bigSep_univ_prod]
  refine bigSep_congr fun c _ => ?_
  rw [bigSep_univ_prod]
  refine bigSep_congr fun k _ => ?_
  rw [bigSep_univ_eq_bigSepL [(0 : Fin 8), 1, 2, 3, 4, 5, 6, 7] (by decide) (by decide)]
  rfl

def xE : Dev nD ≃ Dev nD := ⟨xn, xn, xn_xn, xn_xn⟩
def yE : Dev nD ≃ Dev nD := ⟨yn, yn, yn_yn, yn_yn⟩

/-- Each barrier token goes to the neighbour that pays it, -/
theorem barToks_around : (bigSep Finset.univ fun c : Dev nD => (iprop(dutyTok ER (barC c) 0 false ∗ dutyTok ER (barC c) 0 true) : sProp 𝕄))
    = bigSep Finset.univ fun c : Dev nD => iprop(dutyTok ER (barC (xn c)) 0 false ∗ dutyTok ER (barC (yn c)) 0 true) := by
  rw [bigSep_sep', bigSep_sep', bigSep_univ_equiv xE fun c : Dev nD => (dutyTok ER (barC c) 0 false : sProp 𝕄),
    bigSep_univ_equiv yE fun c : Dev nD => (dutyTok ER (barC c) 0 true : sProp 𝕄)]
  rfl
/-- and so does that of each receiving cell. -/
theorem scToks_around : (bigSep Finset.univ fun c : Dev nD => bigSep Finset.univ (ownToks (F := F) c))
    = bigSep Finset.univ fun c : Dev nD => bigSep Finset.univ (toksAt (F := F) c) := by
  unfold ownToks toksAt
  simp only [bigSep_sep']
  rw [bigSep_univ_equiv xE fun c : Dev nD => bigSep Finset.univ fun k => (tok (xrC c k) 0 : sProp 𝕄),
    bigSep_univ_equiv yE fun c : Dev nD => bigSep Finset.univ fun k => (tok (yrC c k) 0 : sProp 𝕄)]
  rfl

/-! ## Credit -/

theorem crd_two (g : GSem nD τ sig) : (crd g 1 : sProp 𝕄) ⊢ crd g 1 -∗ crd g 2 := by
  rw [show (crd g 2 : sProp 𝕄) = cred (tallyAt g () 1 + tallyAt g () 1) from congrArg cred (tallyAt_add g () 1 1).symm]
  iintro H1 H2
  iapply (cred_add _ _).2
  isplitl [H1] <;> iassumption

/-- What each device owes a cell `s` of its neighbour, the neighbour is credited. -/
theorem launch_one (f : Dev nD → Dev nD) (hf : ∀ d, f (f d) = d) (s : SemLoc sig) (n : ℕ) (c : Dev nD) :
    (launchCred (fun d => tallyAt ((f d : Thread nD τ), s) () n) c : sProp 𝕄) ⊢ crd ((c : Thread nD τ), s) n := by
  refine BIBase.Entails.trans (launchCred_elim _ c s) (BIBase.Entails.of_eq (congrArg cred ?_))
  unfold tallyAt
  refine congrArg _ (Finsupp.ext fun u => ?_)
  cases u
  rw [launchCredit_owing, Finsupp.single_eq_same, Finset.sum_eq_single (f c)]
  · rw [hf]; exact tallyAt_self _ _ _
  · intro d _ hd
    refine (tallyAt_apply ((f d : Thread nD τ), s) () n ((c : Thread nD τ), s) ()).trans (if_neg ?_)
    rintro ⟨h, -⟩
    have h : c = f d := congrArg (fun g : GSem nD τ sig => g.1.1) h
    exact hd (by rw [h, hf])
  · exact fun h => absurd (Finset.mem_univ _) h

theorem launch_sum (O : Fin 16 → Dev nD → CellTallies nD τ sig Unit) (c : Dev nD) (S : Finset (Fin 16)) :
    (launchCred (fun d => ∑ k ∈ S, O k d) c : sProp 𝕄) = bigSep S fun k => launchCred (O k) c := by
  induction S using Finset.induction_on with
  | empty => simp only [Finset.sum_empty, bigSep_empty]; exact launchCred_zero c
  | insert k S hk ih =>
    rw [bigSep_insert hk, ← ih]
    simp only [Finset.sum_insert hk]
    exact launchCred_add (O k) (fun d => ∑ j ∈ S, O j d) c

theorem Ox_zero (d : Dev nD) : Ox d (fun _ => 0) = ∑ k, tallyAt (xrC (xn d) k) () NB := Finset.sum_congr rfl fun _ _ => if_pos (Nat.zero_le _)
theorem Oy_zero (d : Dev nD) : Oy d (fun _ => 0) = ∑ k, tallyAt (yrC (yn d) k) () NB := Finset.sum_congr rfl fun _ _ => if_pos (Nat.zero_le _)

theorem launch_x (c : Dev nD) : (launchCred (fun d => Ox d fun _ => 0) c : sProp 𝕄) ⊢ bigSep Finset.univ fun k => crd (xrC c k) NB := by
  simp only [Ox_zero]
  rw [launch_sum (fun k d => tallyAt (xrC (xn d) k) () NB)]
  exact bigSep_mono fun k _ => launch_one xn xn_xn (.dma (xrS k)) NB c
theorem launch_y (c : Dev nD) : (launchCred (fun d => Oy d fun _ => 0) c : sProp 𝕄) ⊢ bigSep Finset.univ fun k => crd (yrC c k) NB := by
  simp only [Oy_zero]
  rw [launch_sum (fun k d => tallyAt (yrC (yn d) k) () NB)]
  exact bigSep_mono fun k _ => launch_one yn yn_yn (.dma (yrS k)) NB c

theorem launch_creds (c : Dev nD) : (launchCred Oall c : sProp 𝕄) ⊢ iprop(crd (barC c) 2 ∗ bigSep Finset.univ (crdsAt (F := F) c)) := by
  have e : (Oall : Dev nD → CellTallies nD τ sig Unit) = fun d => (((fun d => (fun d => Ox d fun _ => 0) d + (fun d => Oy d fun _ => 0) d) d)
      + (fun d => tallyAt (barC (yn d)) () 1) d) + (fun d => tallyAt (barC (xn d)) () 1) d := rfl
  rw [e, launchCred_add (fun d => ((fun d => (fun d => Ox d fun _ => 0) d + (fun d => Oy d fun _ => 0) d) d) + (fun d => tallyAt (barC (yn d)) () 1) d),
    launchCred_add (fun d => (fun d => Ox d fun _ => 0) d + (fun d => Oy d fun _ => 0) d), launchCred_add (fun d => Ox d fun _ => 0)]
  unfold crdsAt
  rw [bigSep_sep']
  iintro ⟨⟨⟨Hx, Hy⟩, H1⟩, H2⟩
  ihave Hx := (launch_x (F := F) c) $$ Hx
  ihave Hy := (launch_y (F := F) c) $$ Hy
  ihave H1 := (launch_one (F := F) yn yn_yn (.reg barS) 1 c) $$ H1
  ihave H2 := (launch_one (F := F) xn xn_xn (.reg barS) 1 c) $$ H2
  isplitl [H1 H2]
  · iapply (crd_two (F := F) (barC c)) $$ H1 H2
  · isplitl [Hx] <;> iassumption

end Cert.AR

end
-- ==== Proof.Launch.lean ====
/- The run of the whole program: launch, the two reshapes, the kernel region, the end. -/
module

public import proofs.«01_k».proof.Proof.Deal

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the program's own code holds -/

/-- The buffers that live through the whole program. -/
abbrev bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

theorem held_bufs (c : Dev nD) (W : Valuation τ sig (Elt F)) : (StableHlo.held (c : Thread nD τ) bufs W : sProp 𝕄)
    = iprop(pt c main_arg0 (W (Proc.devRef .tc main_arg0)) ∗ pt c main_arg1 (W (Proc.devRef .tc main_arg1)) ∗ pt c main_arg2 (W (Proc.devRef .tc main_arg2))
      ∗ pt c main_v1 (W (Proc.devRef .tc main_v1)) ∗ pt c main_v2 (W (Proc.devRef .tc main_v2)) ∗ pt c main_v3 (W (Proc.devRef .tc main_v3))) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem ops_sub : ∀ op ∈ (hostOps0 : List (HloOp τ sig (Elt F))), op.bufs ⊆ bufs := by
  intro op h
  rcases List.mem_cons.mp h with rfl | h
  · show ({Proc.devRef .tc main_arg0, Proc.devRef .tc main_v1} : Finset (DevRef τ sig)) ⊆ bufs
    decide
  · obtain rfl := List.mem_singleton.mp h
    show ({Proc.devRef .tc main_arg2, Proc.devRef .tc main_v2} : Finset (DevRef τ sig)) ⊆ bufs
    decide

theorem ops_fresh : ∀ op ∈ (hostOps0 : List (HloOp τ sig (Elt F))), op.fresh = ∅ :=
  List.forall_iff_forall_mem.mp hostOps0_fresh

/-- What waits for the region while the reshapes run. -/
def Rw (c : Dev nD) : sProp 𝕄 := iprop(Tk m c ∗ (∃ r, prngReg c r) ∗ debt c (Oall c))

def seg0 : HostSeg (Ix := Unit) (Name := ℕ) (U := UU) (Lvl := ℕ) (pcfgs (F := F)) defs₀ 𝒱₀ L lv :=
  HostSeg.ofOps _ _ _ _ _ bufs hostOps0 ops_sub ops_fresh (W₀ m) (Rw m)

def segs : List (Seg (pcfgs (F := F)) adm (pdats m) () defs₀ 𝒱₀ L lv) := [.host (seg0 m), .region (reg m)]

abbrev T₀ (c : Dev nD) : sProp 𝕄 := iprop(StableHlo.held (c : Thread nD τ) bufs (W₀ m c) ∗ Rw m c)
abbrev Tₙ (c : Dev nD) : sProp 𝕄 := iprop(StableHlo.held (c : Thread nD τ) bufs (W₂ m c) ∗ semVal (barC c) 0)

theorem arr_sub : (Pipeline.arrRefs (τ := τ) (pcfgs (F := F) 0).spec) ⊆ bufs := by
  show Pipeline.arrRefs (τ := τ) spec0 ⊆ bufs
  decide
theorem arr_rest : bufs \ (Pipeline.arrRefs (τ := τ) (pcfgs (F := F) 0).spec) = Sr := by
  show bufs \ Pipeline.arrRefs (τ := τ) spec0 = Sr
  decide

theorem split_bufs (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) Sr W) := by
  rw [StableHlo.held_sub_split (c : Thread nD τ) (arr_sub (F := F)) W, arr_rest]

set_option backward.isDefEq.respectTransparency.types false in
theorem reg_pre (c : Dev nD) : iprop(StableHlo.held (c : Thread nD τ) bufs (W₁ m c) ∗ Rw m c) ⊢ (reg m).pre c := by
  show _ ⊢ iprop(StableHlo.held (c : Thread nD τ) (Pipeline.arrRefs (τ := τ) (pcfgs (F := F) 0).spec) (W₁ m c) ∗ (∃ r, prngReg c r)
    ∗ (StableHlo.held (c : Thread nD τ) Sr (W₁ m c) ∗ emp) ∗ Tk m c ∗ ∃ Wd, owes (c : Thread nD τ) (0 + Oall c) Wd)
  rw [split_bufs, zero_add]
  unfold Rw
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

set_option backward.isDefEq.respectTransparency.types false in
theorem reg_post (c : Dev nD) : (reg m).post c ⊢ iprop(Tₙ m c ∗ ∃ W, owes (c : Thread nD τ) (0 : CellTallies nD τ sig Unit) W) := by
  show iprop(StableHlo.held (c : Thread nD τ) (Pipeline.arrRefs (τ := τ) (pcfgs (F := F) 0).spec) (W₂ m c) ∗ (∃ r, prngReg c r)
    ∗ (StableHlo.held (c : Thread nD τ) Sr (W₂ m c) ∗ emp) ∗ Yk c ∗ ∃ Wd, owes (c : Thread nD τ) 0 Wd) ⊢ _
  unfold Tₙ Yk
  rw [split_bufs]
  iintro ⟨Ha, -, ⟨Hs, -⟩, HY, HO⟩
  isplitr [HO]
  · isplitl [Ha Hs]
    · isplitl [Ha] <;> iassumption
    · iexact HY
  · iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells scCells (barToks ∪ scToks))

/-- The launch of the protocol's cells is one resource, kept by device 0 till every device is there. -/
def one (X : sProp 𝕄) (c : Dev nD) : sProp 𝕄 := if c = 0 then X else iprop(emp)
theorem bigSep_one (X : sProp 𝕄) : bigSep Finset.univ (one X) = X := by
  rw [bigSep_univ_at _ (0 : Dev nD), bigSep_congr (s := Finset.univ.erase (0 : Dev nD)) (Ψ := fun _ => (BI.emp : sProp 𝕄))
      fun c hc => by unfold one; rw [if_neg (Finset.ne_of_mem_erase hc)]; rfl, BI.bigSep_emp_const]
  unfold one
  rw [if_pos rfl]
  exact BI.equiv_iff.mp sep_emp

def Gl : Dev nD → sProp 𝕄 := one (BI.own (ER (launchOf barCells scCells (barToks ∪ scToks))))

def records (K : GSem nD τ sig → ℕ) : sProp 𝕄 := iprop(invs (inp m) K ∗ bigSep barCells fun g => reached ER g 0)
instance records_persistent (K : GSem nD τ sig → ℕ) : BI.Persistent (records m K) := by unfold records; infer_instance

theorem reached_at (c : Dev nD) : (bigSep barCells fun g => (reached ER g 0 : sProp 𝕄)) ⊢ rch (barC c) 0 :=
  bigSep_elim (Finset.mem_map_of_mem barEmb (Finset.mem_univ c))

/-- What a device is dealt, -/
def dealt (c : Dev nD) : sProp 𝕄 :=
  iprop(pos (barC c) 0 ∗ (dutyTok ER (barC (xn c)) 0 false ∗ dutyTok ER (barC (yn c)) 0 true)
    ∗ (bigSep Finset.univ fun x : Fin 6 × Fin 16 => openTok ER ((c : Thread nD τ), osem x)) ∗ bigSep Finset.univ (toksAt (F := F) c))
/-- and what it has by itself. -/
def bundle (c : Dev nD) : sProp 𝕄 :=
  iprop(StableHlo.held (c : Thread nD τ) bufs (W₀ m c) ∗ (crd (barC c) 2 ∗ bigSep Finset.univ (crdsAt (F := F) c))
    ∗ owes (c : Thread nD τ) (Oall c) ∅ ∗ ∃ r, prngReg c r)

theorem T₀_intro (K : GSem nD τ sig → ℕ) (c : Dev nD) : iprop(records m K ∗ (dealt (F := F) c ∗ bundle m c)) ⊢ T₀ m c := by
  unfold records dealt bundle T₀ Rw Tk barPre
  iintro ⟨⟨#HI, #HR⟩, ⟨Hat, ⟨Hd1, Hd2⟩, Ho, HT⟩, Hh, ⟨Hc, HC⟩, HO, Hp⟩
  isplitl [Hh]; · iexact Hh
  isplitr [Hp HO]
  · iexists K
    isplitr; · iexact HI
    isplitl [Hat Hc Hd1 Hd2]
    · isplitl [Hat]; · iexact Hat
      isplitl [Hc]; · iexact Hc
      isplitl [Hd1]; · iexact Hd1
      isplitl [Hd2]; · iexact Hd2
      isplitr
      · iapply (reached_at (F := F) (xn c)); iexact HR
      · iapply (reached_at (F := F) (yn c)); iexact HR
    isplitl [Ho]; · iexact Ho
    isplitl [HT] <;> iassumption
  · isplitl [Hp]; · iexact Hp
    iexists ∅; iexact HO

theorem core (c : Dev nD) : iprop(unscopedBufs c (fun b => m ((c : Thread nD τ).loc b)) ∗ unscopedSems0 c
      ∗ owes (c : Thread nD τ) (Oall c) ∅ ∗ launchCred Oall c ∗ prngReg c (ρ c) ∗ Gl (F := F) c)
    ⊢ (iprop(bundle m c ∗ (semVal (barC c) 0 ∗ Gl (F := F) c)) : sProp 𝕄) := by
  rw [show unscopedBufs c (fun b => m ((c : Thread nD τ).loc b)) = StableHlo.held (c : Thread nD τ) bufs (W₀ m c) from unscopedBufs_held c (W₀ m c),
    unscopedSems0_eq]
  unfold bundle
  iintro ⟨Hh, Hus, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem deal_open : bigSep scCells (fun g => (openTok ER g : sProp 𝕄))
    = bigSep Finset.univ (fun c : Dev nD => bigSep Finset.univ fun x : Fin 6 × Fin 16 => openTok ER ((c : Thread nD τ), osem x)) := by
  unfold scCells
  rw [bigSep_map, bigSep_univ_prod]
  rfl

theorem deal_toks : bigSep (barToks ∪ scToks) (fun t => (dutyTok ER t.1 t.2.1 t.2.2 : sProp 𝕄))
    = iprop((bigSep Finset.univ fun c : Dev nD => iprop(dutyTok ER (barC (xn c)) 0 false ∗ dutyTok ER (barC (yn c)) 0 true))
      ∗ bigSep Finset.univ fun c : Dev nD => bigSep Finset.univ (toksAt (F := F) c)) := by
  rw [bigSep_union disjoint_toks, barToks_eq, scToks_eq, barToks_around, scToks_around]
  rfl

theorem deal : iprop(bigSep barCells (fun g => (atPos ER g 0 ∅ 0 : sProp 𝕄)) ∗ bigSep scCells (fun g => (openTok ER g : sProp 𝕄))
      ∗ bigSep (barToks ∪ scToks) (fun t => (dutyTok ER t.1 t.2.1 t.2.2 : sProp 𝕄)))
    ⊢ bigSep Finset.univ (dealt (F := F)) := by
  unfold dealt
  rw [deal_toks, deal_open, show bigSep barCells (fun g => (atPos ER g 0 ∅ 0 : sProp 𝕄))
    = bigSep Finset.univ (fun c : Dev nD => pos (barC c) 0) from bigSep_map (s := Finset.univ) barEmb]
  simp only [bigSep_sep']
  iintro ⟨H1, H2, H3, H4⟩
  isplitl [H1]; · iexact H1
  isplitl [H3]; · iexact H3
  isplitl [H2] <;> iassumption

theorem init :
    iprop((bigSep Finset.univ fun c : Dev nD => iprop(unscopedBufs c (fun b => m ((c : Thread nD τ).loc b)) ∗ unscopedSems0 c
          ∗ owes (c : Thread nD τ) (Oall c) ∅ ∗ launchCred Oall c ∗ prngReg c (ρ c) ∗ Gl (F := F) c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hm : (bigSep Finset.univ fun c : Dev nD => iprop(unscopedBufs c (fun b => m ((c : Thread nD τ).loc b)) ∗ unscopedSems0 c
        ∗ owes (c : Thread nD τ) (Oall c) ∅ ∗ launchCred Oall c ∗ prngReg c (ρ c) ∗ Gl (F := F) c))
      ⊢ iprop(bigSep Finset.univ (bundle m) ∗ (bigSep Finset.univ fun c : Dev nD => (semVal (barC c) 0 : sProp 𝕄)) ∗ bigSep Finset.univ (Gl (F := F))) := by
    rw [← bigSep_sep', ← bigSep_sep']
    exact bigSep_mono fun c _ => core m ρ c
  have hg : bigSep Finset.univ (Gl (F := F)) ⊢ BI.own (ER (launchOf barCells scCells (barToks ∪ scToks))) :=
    BIBase.Entails.of_eq (bigSep_one (F := F) (BI.own (ER (launchOf barCells scCells (barToks ∪ scToks)))))
  iintro ⟨H, -⟩
  ihave H' := hm $$ H
  icases H' with ⟨HB, Hv, HG⟩
  ihave Hu := hg $$ HG
  imod (Rounds.fund_launch ER (Rd (inp m)) disjoint_cells (fun g _ h => h) (barToks ∪ scToks)) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(dealt (F := F) c ∗ bundle m c)) fun c _ => T₀_intro m K c)
  isplitr
  · unfold records invs
    isplitr; · iexact Hinv
    iexact Hr
  rw [bigSep_sep']
  isplitr [HB]
  · iapply (deal (F := F))
    isplitl [Hat]; · iexact Hat
    isplitl [Hopen] <;> iassumption
  · iexact HB

/-! ## The run -/

set_option backward.isDefEq.respectTransparency.types false in
theorem main_eq (c : Dev nD) : main (F := F) c = Seg.run (segs m) :=
  main_segs adm (pdats m) () 𝒱₀ L lv (seg0 m) (reg m) rfl c

theorem W₂_arg0 (c : Dev nD) : W₂ m c (Proc.devRef .tc main_arg0) = m ((c : Thread nD τ).loc main_arg0) :=
  (W₂_ne m c _ (by decide)).trans (V_main_arg0 m c)
theorem W₂_arg1 (c : Dev nD) : W₂ m c (Proc.devRef .tc main_arg1) = m ((c : Thread nD τ).loc main_arg1) :=
  (W₂_ne m c _ (by decide)).trans (V_main_arg1 m c)
theorem W₂_arg2 (c : Dev nD) : W₂ m c (Proc.devRef .tc main_arg2) = m ((c : Thread nD τ).loc main_arg2) :=
  (W₂_ne m c _ (by decide)).trans (V_main_arg2 m c)

/-- What a device's memory holds at the end. -/
structure Ends (s : MemSt nD τ sig (Elt F)) (c : Dev nD) : Prop where
  a0 : s.mem ((c : Thread nD τ).loc main_arg0) = m ((c : Thread nD τ).loc main_arg0)
  a1 : s.mem ((c : Thread nD τ).loc main_arg1) = m ((c : Thread nD τ).loc main_arg1)
  a2 : s.mem ((c : Thread nD τ).loc main_arg2) = m ((c : Thread nD τ).loc main_arg2)
  v3 : s.mem ((c : Thread nD τ).loc main_v3) = outB (inp m) c

set_option backward.isDefEq.respectTransparency.types false in
/-- Every run ends, with the arguments as they were, the result as computed and every semaphore at zero. -/
theorem run_main : θ_run defs (onTc (τ := τ) (main (F := F))) ⟨m, fun _ => 0, ρ⟩
    (fun r => (∀ c : Dev nD, Ends m r.2 c) ∧ r.2.sem = fun _ => 0) :=
  θ_run_regions_kit_sems (pcfgs (F := F)) adm (pdats m) () cellOf_inj EP defs₀ 𝒱₀ L lv m ρ main (segs m)
    (fun c Q => by rw [main_eq m c])
    (by simp only [segs, Seg.pipes_host, Seg.pipes_region, Seg.pipes_nil]; decide)
    (O₀ := Oall) (hL := L_of_ne) (G := Gl) (u₀ := u₀)
    (hu₀ := by
      unfold u₀ Gl
      iintro Hu
      ihave H := (ownU_pair _ _) $$ Hu
      icases H with ⟨HP, HX⟩
      imodintro
      isplitl [HP]; · iexact HP
      rw [bigSep_one]; iexact HX)
    (T₀ := T₀ m) (Tₙ := Tₙ m)
    (hch := ⟨fun c => .rfl, fun c => reg_pre m c, fun c => reg_post m c⟩)
    (hinit := init m ρ)
    (QY := fun c s => Ends m s c ∧ s.sem (barC c) = 0)
    (hfin := fun c s' => by
      dsimp only [Tₙ]
      rw [held_bufs, W₂_arg0, W₂_arg1, W₂_arg2, W₂_v3]
      iintro ⟨⟨⟨H0, H1, H2, -, -, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => (h c).1,
      sem_eq_zero hs fun c sm hsm => by
        obtain rfl := unscoped_eq sm hsm
        exact (h c).2⟩)

end Cert.AR

end
-- ==== Proof.Same.lean ====
/- The kernel's program and its idealized print are one program: what is proved of the second at any float values holds of the first. -/
module

public import proofs.«01_k».proof.Proof.Launch
public import proofs.«01_k».proof.Proof.Gen.Kernel
public import proofs.«01_k».proof.Proof.Gen.Kernel.Launch

@[expose] public section

noncomputable section

namespace Cert.Same

open Idealize.ShloMosaic Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

theorem defs_eq : Cert.Kernel.defs (F := F) = Cert.KernelIdeal.defs (F := F) := by
  unfold Cert.Kernel.defs Cert.KernelIdeal.defs
  rw [defs₀_eq]
  rfl

/-- `Cert.AR.run_main`, of the kernel before it is idealized. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, Cert.AR.Ends m r.2 c) ∧ r.2.sem = fun _ => 0) := by
  rw [defs_eq]
  exact Cert.AR.run_main m ρ

end Cert.Same

end
-- ==== Proof.Norm.lean ====
/- The row the kernel computes over the extended reals, and the same row as a quotient by a root. -/
module

public import proofs.«01_k».proof.Proof.Split
public import Idealize.ShloMosaic.PureOps.Ideal.Laws
public import Idealize.ShloMosaic.Lib.ValueIdx
public import Idealize.ShloMosaic.Lib.Pipeline.Value

@[expose] public section

noncomputable section

namespace Cert.AR

open Idealize.ShloMosaic Idealize.ShloMosaic.ValueIdx
open Cert.KernelIdeal Cert.KernelIdeal.Gen

/-! ## Constants -/

theorem ofBits_inv : Ideal.ofBits .f32 0x3A000000#32 = ((1 / 2048 : ℝ) : EReal) := by
  simp [Ideal.ofBits, Ideal.ieee]
  rw [← EReal.coe_mul]
  norm_num
theorem ofBits_len : Ideal.ofBits .f32 0x45000000#32 = ((2048 : ℝ) : EReal) := by
  simp [Ideal.ofBits, Ideal.ieee]
  rw [← EReal.coe_mul]
  norm_num
theorem ofBits_eps : 0 < Ideal.ofBits .f32 0x358637BD#32 := by
  simp [Ideal.ofBits, Ideal.ieee]
  rw [← EReal.coe_mul, EReal.coe_pos]
  positivity

/-! ## A quotient by a root -/

theorem mul_self_nonneg' (x : EReal) : 0 ≤ x * x := by
  induction x with
  | bot => simp
  | top => simp
  | coe r => exact_mod_cast mul_self_nonneg r

theorem div_sqrt (y a : EReal) (h : 0 < a) : Ideal.div y (Ideal.sqrt a) = y * Ideal.rsqrt a := by
  induction a with
  | bot => exact absurd h (by simp)
  | top =>
    have e1 : Ideal.sqrt ⊤ = ⊤ := rfl
    have e2 : Ideal.rsqrt ⊤ = 0 := rfl
    rw [e1, e2, Ideal.div, if_neg EReal.top_ne_zero, EReal.inv_top]
  | coe r =>
    have hr : 0 < r := by exact_mod_cast h
    have hs : Real.sqrt r ≠ 0 := (Real.sqrt_pos.mpr hr).ne'
    have e1 : Ideal.sqrt (r : EReal) = ((Real.sqrt r : ℝ) : EReal) := if_neg hr.not_gt
    have e2 : Ideal.rsqrt (r : EReal) = (((Real.sqrt r)⁻¹ : ℝ) : EReal) := (if_neg hr.not_gt).trans (if_neg hr.ne')
    rw [e1, e2, Ideal.div, if_neg (by exact_mod_cast hs), EReal.coe_inv]

theorem div_len (s : EReal) : Ideal.div s (Ideal.ofBits .f32 0x45000000#32) = s * Ideal.ofBits .f32 0x3A000000#32 := by
  rw [ofBits_len, ofBits_inv, Ideal.div, if_neg (by norm_num), one_div, EReal.coe_inv]

/-! ## The row -/

/-- Under the root: the mean of the squares and a little more. -/
def under (y : Fin 2048 → EReal) : EReal := (∑ k, y k * y k) * Ideal.ofBits .f32 0x3A000000#32 + Ideal.ofBits .f32 0x358637BD#32
/-- A row `y` divided by the root and multiplied by `g`, at `q`. -/
def nrm (y : Fin 2048 → EReal) (g : EReal) (q : Fin 2048) : EReal := y q * Ideal.rsqrt (under y) * g

theorem under_pos (y : Fin 2048 → EReal) : 0 < under y := by
  have h : 0 ≤ (∑ k, y k * y k) * Ideal.ofBits .f32 0x3A000000#32 :=
    mul_nonneg (Finset.sum_nonneg fun k _ => mul_self_nonneg' (y k)) (by rw [ofBits_inv]; exact_mod_cast (by norm_num : (0 : ℝ) ≤ 1 / 2048))
  exact lt_of_lt_of_le ofBits_eps (le_add_of_nonneg_left h)

theorem nrm_eq (y : Fin 2048 → EReal) (g : EReal) (q : Fin 2048) :
    Ideal.div (y q) (Ideal.sqrt (Ideal.div (∑ k, y k * y k) (Ideal.ofBits .f32 0x45000000#32) + Ideal.ofBits .f32 0x358637BD#32)) * g = nrm y g q := by
  rw [div_len]
  exact congrArg (· * g) (div_sqrt (y q) (under y) (under_pos y))

/-! ## What the kernel computes of a chunk -/

/-- The row of the sum. -/
def rowOf (a b : FVec Ideal S64x2048 .bf16) (r : FVec Ideal S64x2048 .f32) (w : Fin 64) (q : Fin 2048) : EReal := a (ix2 w q) + b (ix2 w q) + r (ix2 w q)

theorem lift_row (w : Fin 64) (k : Fin 2048) : reduces_S64x2048_S64.lift (ix1 w) k = ix2 w k := by
  funext d
  match d with
  | ⟨0, _⟩ => rfl
  | ⟨1, _⟩ => rfl

theorem pay30_apply (g : FVec Ideal S1x2048 .bf16) (a b : FVec Ideal S64x2048 .bf16) (r : FVec Ideal S64x2048 .f32) (w : Fin 64) (q : Fin 2048) :
    k0_pay30 (F := Ideal) g a b r (ix2 w q) = nrm (rowOf a b r w) (g (ix2 0 q)) q := by
  unfold k0_pay30
  dsimp only
  rw [mulf_apply, mulf_apply]
  rw [broadcastTo_apply g broadcasts_S1x2048_S64x2048 (ix2 w q) (ix2 0 q) (fun d => by match d with | ⟨0, _⟩ => rfl | ⟨1, _⟩ => rfl)]
  rw [broadcastTo_apply _ broadcasts_S64x1_S64x2048 (ix2 w q) (ix2 w 0) (fun d => by match d with | ⟨0, _⟩ => rfl | ⟨1, _⟩ => rfl)]
  refine congrArg (fun z => rowOf a b r w q * Ideal.rsqrt (z * _ + _) * g (ix2 0 q)) ?_
  rw [shapeCast_apply _ shapeCasts_S64_S64x1 (ix2 w 0) (ix1 w) (by decide +revert)]
  refine (Ideal.multiReduction_add_single _ _ _ _ _ _).trans ?_
  refine Finset.sum_congr rfl fun k _ => ?_
  exact congrArg (fun i => (a i + b i + r i) * (a i + b i + r i)) (lift_row w k)

end Cert.AR

end
-- ==== Proof.Value.lean ====
/- The values over the extended reals: what a device's result holds at an index, and what the reference computes there. -/
module

public import proofs.«01_k».proof.Proof.Launch
public import proofs.«01_k».proof.Proof.Norm
public import proofs.«01_k».proof.Proof.Gen.ReferenceIdeal.Read
public import Idealize.ShloMosaic.Lib.Layout

@[expose] public section

noncomputable section

namespace Cert.AR

open Idealize.ShloMosaic Idealize.ShloMosaic.TcCoe Idealize.ShloMosaic.ValueIdx
open Cert.KernelIdeal Cert.KernelIdeal.Gen

/-! ## A device's result from the inputs of the devices -/

section result
variable (I : Inp Ideal) (d : Dev nD)

theorem emb_at (k : Fin 16) (w : Fin 64) (q a : Fin 2048) (h : a.val = 1024 * (d.val % 2) + 64 * k.val + w.val) :
    (ro1 d k).emb (ix2 w q) = ix2 a q := by
  obtain ⟨h0, h1⟩ := emb_ro1 d k (ix2 w q)
  rw [eq_ix2 ((ro1 d k).emb (ix2 w q)), h1, show (ro1 d k).emb (ix2 w q) 0 = a from Fin.ext (h0.trans h.symm)]
  rfl

/-- The row `a` of the sum on device `d`. -/
def rowSum (a q : Fin 2048) : EReal := I.p d (ix2 a q) + I.p (xn d) (ix2 a q) + I.r d (ix2 a q)

theorem xn_mod : ∀ c : Dev nD, (xn c).val % 2 = c.val % 2 := by decide
theorem yn_mod : ∀ c : Dev nD, (yn c).val % 2 = 1 - c.val % 2 := by decide

theorem xsA_at (k : Fin 16) (w : Fin 64) (q a : Fin 2048) (h : a.val = 1024 * (d.val % 2) + 64 * k.val + w.val) :
    xsA I d k (ix2 w q) = I.p d (ix2 a q) := by
  unfold xsA k0_pay1 pA
  rw [shapeCast_self, truncf_apply]
  exact congrArg (I.p d) (emb_at d k w q a h)

theorem nA_at (k : Fin 16) (w : Fin 64) (q a : Fin 2048) (h : a.val = 1024 * (d.val % 2) + 64 * k.val + w.val) :
    nA I d k (ix2 w q) = nrm (rowSum I d a) (I.g d (ix2 0 q)) q := by
  unfold nA
  rw [pay30_apply]
  refine congrArg (fun y => nrm y (I.g d (ix2 0 q)) q) (funext fun q' => ?_)
  unfold rowOf rowSum rA
  rw [xsA_at I d k w q' a h, xsA_at I (xn d) k w q' a (by rw [xn_mod]; exact h), emb_at d k w q' a h]

theorem o0_eq (k : Fin 16) : o0 I d k = nA I d k := by
  unfold o0 k0_pay32
  exact shapeCast_self _ _
theorem o1_eq (k : Fin 16) : o1 I d k = nA I (yn d) k := by
  unfold o1 k0_pay33 ysA k0_pay31
  dsimp only
  rw [shapeCast_self, shapeCast_self]
  rfl

/-- Which device reduced row `a` of device `d`'s result. -/
def rowOn (a : Fin 2048) : Dev nD := if a.val / 1024 = d.val % 2 then d else yn d

theorem outB_at (a q : Fin 2048) : outB I d (ix2 a q) = nrm (rowSum I (rowOn d a) a) (I.g (rowOn d a) (ix2 0 q)) q := by
  have ha := a.isLt
  have hd : d.val % 2 < 2 := Nat.mod_lt _ (by decide)
  unfold outB glue2 rowOn
  by_cases hh : a.val / 1024 = d.val % 2
  · rw [if_pos hh, if_pos (show ((ix2 a q : S2048x2048.Idx) 0).val / 1024 = d.val % 2 from hh), o0_eq]
    exact nA_at I d _ _ q a (by show _ = 1024 * (d.val % 2) + 64 * (a.val % 1024 / 64) + a.val % 64; omega)
  · rw [if_neg hh, if_neg (show ¬ ((ix2 a q : S2048x2048.Idx) 0).val / 1024 = d.val % 2 from hh), o1_eq]
    exact nA_at I (yn d) _ _ q a (by rw [yn_mod]; show _ = 1024 * (1 - d.val % 2) + 64 * (a.val % 1024 / 64) + a.val % 64; omega)

end result

/-! ## The inputs from the arguments -/

section inputs
variable (m : (ℓ : Loc nD τ sig) → Buf (Elt Ideal) ℓ) (c : Dev nD)

theorem p_at (a q : Fin 2048) : (inp m).p c (ix2 a q) = m ((c : Thread nD τ).loc main_arg0) (ix3 0 a q) := by
  show V m c main_v1 (ix2 a q) = _
  have e : V m c main_v1 = shapeCast S2048x2048 (m ((c : Thread nD τ).loc main_arg0)) shapeCasts_S1x2048x2048_S2048x2048 := by
    unfold V hostOps0
    after_results
    rfl
  rw [e]
  refine (shapeCast_dropUnit_apply (n := 2) _ _ _ _).trans (congrArg (m ((c : Thread nD τ).loc main_arg0)) ?_)
  funext b
  match b with
  | ⟨0, _⟩ => rfl
  | ⟨1, _⟩ => rfl
  | ⟨2, _⟩ => rfl

theorem r_at (a q : Fin 2048) : (inp m).r c (ix2 a q) = m ((c : Thread nD τ).loc main_arg1) (ix2 a q) := congrFun (V_main_arg1 m c) _

theorem g_at (q : Fin 2048) : (inp m).g c (ix2 0 q) = m ((c : Thread nD τ).loc main_arg2) (ix1 q) := by
  show gOf (stg m c) (ix2 0 q) = _
  have e : V m c main_v2 = shapeCast S1x2048 (m ((c : Thread nD τ).loc main_arg2)) shapeCasts_S2048_S1x2048 := by
    unfold V hostOps0
    after_results
    rfl
  have e2 : stg m c = V m c main_v2 := by
    funext i
    refine congrArg (V m c main_v2) (funext fun b => Fin.ext ?_)
    match b with
    | ⟨0, h⟩ => show 0 * 1 + 1 * (i ⟨0, h⟩).val = (i ⟨0, h⟩).val; omega
    | ⟨1, h⟩ => show 0 * 2048 + 1 * (i ⟨1, h⟩).val = (i ⟨1, h⟩).val; omega
  unfold gOf k0_pay19
  rw [shapeCast_self, truncf_apply, e2, e]
  show shapeCast S1x2048 (m ((c : Thread nD τ).loc main_arg2)) shapeCasts_S2048_S1x2048 (rG.emb (ix2 0 q)) = _
  refine (shapeCast_addUnit_apply (n := 1) _ _ _ _).trans (congrArg (m ((c : Thread nD τ).loc main_arg2)) ?_)
  funext b
  match b with
  | ⟨0, _⟩ => exact Fin.ext (by show 0 + 1 * q.val = q.val; omega)

end inputs

/-! ## The reference at an index -/

section reference
open Cert.ReferenceIdeal.Read
variable (x0 : FVec Ideal ⟨3, ![2, 2048, 2048]⟩ .f32) (x1 : FVec Ideal ⟨2, ![2048, 2048]⟩ .f32) (x2 : FVec Ideal ⟨1, ![2048]⟩ .f32)

/-- The row `a` of the sum. -/
def refRow (a q : Fin 2048) : EReal := x0 (ix3 0 a q) + x0 (ix3 1 a q) + x1 (ix2 a q)

theorem v1_at (a q : Fin 2048) : val_main_v1 (F := Ideal) x0 x1 (ix2 a q) = refRow x0 x1 a q := by
  rw [val_main_v1_apply, val_main_v0_apply, Fin.sum_univ_two, val_main_cst_apply]
  refine congrArg (· + x1 (ix2 a q)) ?_
  refine (congrArg (· + _) Ideal.ofBits_zero_f32).trans ((zero_add _).trans ?_)
  refine congrArg₂ (fun i j => x0 i + x0 j) ?_ ?_ <;>
  · funext b
    match b with
    | ⟨0, _⟩ => rfl
    | ⟨1, _⟩ => rfl
    | ⟨2, _⟩ => rfl

theorem v3_at (a : Fin 2048) : val_main_v3 (F := Ideal) x0 x1 (ix1 a) = ∑ k, refRow x0 x1 a k * refRow x0 x1 a k := by
  rw [val_main_v3_apply, val_main_cst_0_apply]
  refine (congrArg (· + _) Ideal.ofBits_zero_f32).trans ((zero_add _).trans ?_)
  refine Finset.sum_congr rfl fun k _ => ?_
  rw [val_main_v2_apply, show idx_main_v3 (ix1 a) k = ix2 a k from eq_ix2 _, v1_at]
  rfl

theorem v9_at (a : Fin 2048) : val_main_v9 (F := Ideal) x0 x1 (ix2 a 0)
    = Ideal.sqrt (Ideal.div (∑ k, refRow x0 x1 a k * refRow x0 x1 a k) (Ideal.ofBits .f32 0x45000000#32) + Ideal.ofBits .f32 0x358637BD#32) := by
  rw [val_main_v9_apply, val_main_v8_apply, val_main_v7_apply, val_main_cst_2_apply, val_main_v6_apply, val_main_v5_apply, val_main_cst_1_apply,
    val_main_v4_apply, show idx_main_v4 (ix2 a 0) = ix1 a from eq_ix1 _, v3_at]
  rfl

theorem v14_at (a q : Fin 2048) : val_main_v14 (F := Ideal) x0 x1 x2 (ix2 a q) = nrm (refRow x0 x1 a) (x2 (ix1 q)) q := by
  rw [val_main_v14_apply, val_main_v13_apply, val_main_v12_apply, val_main_v11_apply, val_main_v10_apply,
    show idx_main_v10 (ix2 a q) = ix2 a 0 from eq_ix2 _, v9_at, v1_at, ← nrm_eq]
  refine congrArg (fun i => _ * x2 i) (eq_ix1 _)

end reference

/-! ## Both -/

section both
variable (m : (ℓ : Loc nD τ sig) → Buf (Elt Ideal) ℓ)
variable (x0 : FVec Ideal ⟨3, ![2, 2048, 2048]⟩ .f32) (x1 : FVec Ideal ⟨2, ![2048, 2048]⟩ .f32) (x2 : FVec Ideal ⟨1, ![2048]⟩ .f32)

theorem x_pair : ∀ c : Dev nD, (c.val / 2 % 2 = 0 ∧ (xn c).val / 2 % 2 = 1) ∨ (c.val / 2 % 2 = 1 ∧ (xn c).val / 2 % 2 = 0) := by decide

theorem block_at (c : Dev nD) (a q : Fin 2048) (b : Fin 2) (hb : c.val / 2 % 2 = b.val) :
    Layout.blockN ⟨3, ![1, 2048, 2048]⟩ ⟨3, ![2, 2048, 2048]⟩ (Layout.meshBlock [2, 2] ![[0], [], []] c) x0 (by decide) (ix3 0 a q) = x0 (ix3 b a q) := by
  unfold Layout.blockN
  refine congrArg x0 (funext fun e => Fin.ext ?_)
  rw [Layout.TilesN.idx_val]
  match e with
  | ⟨0, _⟩ =>
    show Layout.meshLin [2, 2] c.val [0] * 1 + 0 = b.val
    rw [← hb]
    simp [Layout.meshLin, Layout.meshCoord, Layout.cutSize]
  | ⟨1, _⟩ => show 0 * 2048 + a.val = a.val; omega
  | ⟨2, _⟩ => show 0 * 2048 + q.val = q.val; omega

variable (h0 : ∀ c : Dev nD, m ((c : Thread nD τ).loc main_arg0) = Layout.blockN ⟨3, ![1, 2048, 2048]⟩ ⟨3, ![2, 2048, 2048]⟩ (Layout.meshBlock [2, 2] ![[0], [], []] c) x0)
  (h1 : ∀ c : Dev nD, m ((c : Thread nD τ).loc main_arg1) = x1) (h2 : ∀ c : Dev nD, m ((c : Thread nD τ).loc main_arg2) = x2)

include h0 h1 in
theorem rowSum_eq (c : Dev nD) (a : Fin 2048) : rowSum (inp m) c a = refRow x0 x1 a := by
  funext q
  unfold rowSum refRow
  rw [p_at, p_at, r_at, h0, h0, h1]
  rcases x_pair c with ⟨ha, hb⟩ | ⟨ha, hb⟩
  · rw [block_at x0 c a q 0 ha, block_at x0 (xn c) a q 1 hb]
  · rw [block_at x0 c a q 1 ha, block_at x0 (xn c) a q 0 hb, add_comm (x0 (ix3 1 a q))]

include h0 h1 h2 in
/-- Every device's result is the reference's. -/
theorem outB_eq (c : Dev nD) : outB (inp m) c = Cert.ReferenceIdeal.Read.val_main_v14 (F := Ideal) x0 x1 x2 := by
  have h : ∀ a q : Fin 2048, outB (inp m) c (ix2 a q) = Cert.ReferenceIdeal.Read.val_main_v14 (F := Ideal) x0 x1 x2 (ix2 a q) := fun a q => by
    rw [outB_at, v14_at, rowSum_eq m x0 x1 h0 h1, g_at, h2]
  funext i
  rw [eq_ix2 i]
  exact h (i 0) (i 1)

end both

end Cert.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun _ h => ⟨fun c => ⟨(h.1 c).a0, (h.1 c).a1, (h.1 c).a2⟩, h.2⟩) (Cert.Same.run_main (F := Bits) m ρ)

theorem frame_kernelIdeal : Cert.quiescent_KernelIdeal := fun m ρ _ =>
  (θ_run Cert.KernelIdeal.defs _ _).mono (fun _ h => ⟨fun c => ⟨(h.1 c).a0, (h.1 c).a1, (h.1 c).a2⟩, h.2⟩) (Cert.AR.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ h
  refine ⟨Cert.ReferenceIdeal.Read.val_main_v14 (F := Ideal)
    (m' ((Dev.tc 0 : Thread Cert.ReferenceIdeal.nD Cert.ReferenceIdeal.τ).loc Cert.ReferenceIdeal.main_arg0))
    (m' ((Dev.tc 0 : Thread Cert.ReferenceIdeal.nD Cert.ReferenceIdeal.τ).loc Cert.ReferenceIdeal.main_arg1))
    (m' ((Dev.tc 0 : Thread Cert.ReferenceIdeal.nD Cert.ReferenceIdeal.τ).loc Cert.ReferenceIdeal.main_arg2)), ?_, ?_⟩
  rotate_left
  · exact (θ_run Cert.ReferenceIdeal.defs _ _).mono
      (fun _ e => ⟨(e 0).1.trans (Cert.ReferenceIdeal.Read.val_main_v14_eq ..), (e 0).2⟩) (Cert.ReferenceIdeal.Value.run (F := Ideal) m' ρ')
  · exact (θ_run Cert.KernelIdeal.defs _ _).mono
      (fun _ e c => ⟨(e.1 c).v3.trans (Cert.AR.outB_eq m _ _ _ (fun d => (h d).1) (fun d => (h d).2.1) (fun d => (h d).2.2) c),
        (e.1 c).a0, (e.1 c).a1, (e.1 c).a2⟩) (Cert.AR.run_main (F := Ideal) m ρ)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
